-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_1)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_0)) (v3 : (c : Dev Cert.KernelIdeal.nD) → Buf (Elt Ideal) ((c.tc : Thread Cert.KernelIdeal.nD Cert.KernelIdeal.τ).loc Cert.KernelIdeal.main_v3_1)) (v4 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_1) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_0) = v2 c
          ∧ r.2.mem ((c.tc : Thread Cert.KernelIdeal.nD Cert.KernelIdeal.τ).loc Cert.KernelIdeal.main_v3_1) = v3 c
          ∧ r.2.mem ((c.tc : Thread Cert.KernelIdeal.nD Cert.KernelIdeal.τ).loc Cert.KernelIdeal.main_v3_2) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x4096 : Shape := ⟨3, ![2, 1024, 4096]⟩
abbrev S4096 : Shape := ⟨1, ![4096]⟩
abbrev S4096x11008 : Shape := ⟨2, ![4096, 11008]⟩
abbrev S2048x11008 : Shape := ⟨2, ![2048, 11008]⟩
abbrev S32x11008 : Shape := ⟨2, ![32, 11008]⟩
abbrev S2048x4096 : Shape := ⟨2, ![2048, 4096]⟩
abbrev S1x4096 : Shape := ⟨2, ![1, 4096]⟩
abbrev S1x2048 : Shape := ⟨2, ![1, 2048]⟩
abbrev S2048x128 : Shape := ⟨2, ![2048, 128]⟩
abbrev S128x4096 : Shape := ⟨2, ![128, 4096]⟩
abbrev S1x128 : Shape := ⟨2, ![1, 128]⟩
abbrev S128x128 : Shape := ⟨2, ![128, 128]⟩
abbrev S128 : Shape := ⟨1, ![128]⟩
abbrev S128x1 : Shape := ⟨2, ![128, 1]⟩
abbrev S1x11008 : Shape := ⟨2, ![1, 11008]⟩
abbrev S4096x256 : Shape := ⟨2, ![4096, 256]⟩
abbrev S2048x256 : Shape := ⟨2, ![2048, 256]⟩
abbrev S32x256 : Shape := ⟨2, ![32, 256]⟩
abbrev S1x256 : Shape := ⟨2, ![1, 256]⟩
abbrev S512x256 : Shape := ⟨2, ![512, 256]⟩
abbrev S16x256 : Shape := ⟨2, ![16, 256]⟩
abbrev S16x1x256 : Shape := ⟨3, ![16, 1, 256]⟩
abbrev S16x128x256 : Shape := ⟨3, ![16, 128, 256]⟩
abbrev S2048x2048 : Shape := ⟨2, ![2048, 2048]⟩
abbrev S256 : Shape := ⟨1, ![256]⟩
abbrev S16x2x11008 : Shape := ⟨3, ![16, 2, 11008]⟩
abbrev S256x11008 : Shape := ⟨2, ![256, 11008]⟩
abbrev S1x2x11008 : Shape := ⟨3, ![1, 2, 11008]⟩
abbrev S64x11008 : Shape := ⟨2, ![64, 11008]⟩
abbrev S2x11008 : Shape := ⟨2, ![2, 11008]⟩
abbrev S2x1x11008 : Shape := ⟨3, ![2, 1, 11008]⟩
abbrev S2x128x11008 : Shape := ⟨3, ![2, 128, 11008]⟩
abbrev S512x11008 : Shape := ⟨2, ![512, 11008]⟩
abbrev S512x128 : Shape := ⟨2, ![512, 128]⟩

abbrev nBuf : Space → Nat
  | .hbm => 19
  | .vmem => 39
  | .smem => 0
  | _ => 0

abbrev bufTy : (tb : Table) → Fin (tcTables nBuf tb) → BufTy
  | .hbm, ⟨0, _⟩ => ⟨S2x1024x4096, .bf16⟩
  | .hbm, ⟨1, _⟩ => ⟨S4096, .f32⟩
  | .hbm, ⟨2, _⟩ => ⟨S4096, .f32⟩
  | .hbm, ⟨3, _⟩ => ⟨S4096x11008, .bf16⟩
  | .hbm, ⟨4, _⟩ => ⟨S2048x11008, .i8⟩
  | .hbm, ⟨5, _⟩ => ⟨S32x11008, .f32⟩
  | .hbm, ⟨6, _⟩ => ⟨S2048x4096, .bf16⟩
  | .hbm, ⟨7, _⟩ => ⟨S1x4096, .f32⟩
  | .hbm, ⟨8, _⟩ => ⟨S1x4096, .f32⟩
  | .hbm, ⟨9, _⟩ => ⟨S2048x4096, .bf16⟩
  | .hbm, ⟨10, _⟩ => ⟨S2048x4096, .i8⟩
  | .hbm, ⟨11, _⟩ => ⟨S1x2048, .f32⟩
  | .hbm, ⟨12, _⟩ => ⟨S2048x128, .f32⟩
  | .hbm, ⟨13, _⟩ => ⟨S2048x128, .f32⟩
  | .hbm, ⟨14, _⟩ => ⟨S2048x11008, .bf16⟩
  | .hbm, ⟨15, _⟩ => ⟨S1x11008, .f32⟩
  | .hbm, ⟨16, _⟩ => ⟨S16x2x11008, .f32⟩
  | .hbm, ⟨17, _⟩ => ⟨S2048x4096, .f32⟩
  | .hbm, ⟨18, _⟩ => ⟨S1x4096, .f32⟩
  | .local _ .vmem, ⟨0, _⟩ => ⟨S128x4096, .bf16⟩
  | .local _ .vmem, ⟨1, _⟩ => ⟨S128x4096, .bf16⟩
  | .local _ .vmem, ⟨2, _⟩ => ⟨S1x4096, .f32⟩
  | .local _ .vmem, ⟨3, _⟩ => ⟨S1x4096, .f32⟩
  | .local _ .vmem, ⟨4, _⟩ => ⟨S128x4096, .bf16⟩
  | .local _ .vmem, ⟨5, _⟩ => ⟨S128x4096, .bf16⟩
  | .local _ .vmem, ⟨6, _⟩ => ⟨S128x4096, .i8⟩
  | .local _ .vmem, ⟨7, _⟩ => ⟨S128x4096, .i8⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S2048x4096, .bf16⟩
  | .local _ .vmem, ⟨15, _⟩ => ⟨S2048x4096, .i8⟩
  | .local _ .vmem, ⟨16, _⟩ => ⟨S2048x128, .f32⟩
  | .local _ .vmem, ⟨17, _⟩ => ⟨S4096x256, .bf16⟩
  | .local _ .vmem, ⟨18, _⟩ => ⟨S4096x256, .bf16⟩
  | .local _ .vmem, ⟨19, _⟩ => ⟨S2048x256, .i8⟩
  | .local _ .vmem, ⟨20, _⟩ => ⟨S2048x256, .i8⟩
  | .local _ .vmem, ⟨21, _⟩ => ⟨S32x256, .f32⟩
  | .local _ .vmem, ⟨22, _⟩ => ⟨S32x256, .f32⟩
  | .local _ .vmem, ⟨23, _⟩ => ⟨S2048x256, .bf16⟩
  | .local _ .vmem, ⟨24, _⟩ => ⟨S2048x256, .bf16⟩
  | .local _ .vmem, ⟨25, _⟩ => ⟨S1x256, .f32⟩
  | .local _ .vmem, ⟨26, _⟩ => ⟨S1x256, .f32⟩
  | .local _ .vmem, ⟨27, _⟩ => ⟨S2048x11008, .bf16⟩
  | .local _ .vmem, ⟨28, _⟩ => ⟨S256x11008, .i8⟩
  | .local _ .vmem, ⟨29, _⟩ => ⟨S1x2x11008, .f32⟩
  | .local _ .vmem, ⟨30, _⟩ => ⟨S1x2x11008, .f32⟩
  | .local _ .vmem, ⟨31, _⟩ => ⟨S2048x256, .bf16⟩
  | .local _ .vmem, ⟨32, _⟩ => ⟨S2048x256, .bf16⟩
  | .local _ .vmem, ⟨33, _⟩ => ⟨S2048x128, .f32⟩
  | .local _ .vmem, ⟨34, _⟩ => ⟨S2048x256, .f32⟩
  | .local _ .vmem, ⟨35, _⟩ => ⟨S2048x256, .f32⟩
  | .local _ .vmem, ⟨36, _⟩ => ⟨S1x256, .f32⟩
  | .local _ .vmem, ⟨37, _⟩ => ⟨S1x256, .f32⟩
  | .local _ .vmem, ⟨38, _⟩ => ⟨S256x11008, .bf16⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v4_0 : Ref sig .tc := ⟨.hbm, 14, rfl⟩
abbrev main_v4_1 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc2_stg0_0 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26
abbrev cc2_sem0_0 : DmaSem sig := 27
abbrev cc2_sem1_0 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem5_0 : DmaSem sig := 34
abbrev cc2_sem5_1 : DmaSem sig := 35
abbrev cc2_sem6_0 : DmaSem sig := 36
abbrev cc2_sem6_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![43], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2048x4096 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S32x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![8, 2], ![false, false]⟩

@[reducible] def k2_t1_loop : Scf.Loop 32 :=
  let c0_i32_3 : BitVec 32 := 0#32
  let c4_i32 : BitVec 32 := 4#32
  let v9 : BitVec 32 := Scalar.addi c0_i32_3 c4_i32
  let c1_i32_4 : BitVec 32 := 1#32
  ⟨c0_i32_3, v9, c1_i32_4⟩
def k2_off1 (k2_t1 : Fin k2_t1_loop.trips) : Fin 2 → Nat :=
  let c0_i32_3 : BitVec 32 := 0#32
  let c1_i32_4 : BitVec 32 := 1#32
  let arg10 : BitVec 32 := Scf.iv c0_i32_3 c1_i32_4 k2_t1
  let c512_i32 : BitVec 32 := 512#32
  let v12 : BitVec 32 := Scalar.muli arg10 c512_i32
  let v13 : Index := Scalar.indexCast v12
  let c0_8 : Index := 0#32
  ![v13.toNat, 0]
def k2_off2 (k2_t1 : Fin k2_t1_loop.trips) : Fin 2 → Nat :=
  let c0_i32_3 : BitVec 32 := 0#32
  let c1_i32_4 : BitVec 32 := 1#32
  let arg10 : BitVec 32 := Scf.iv c0_i32_3 c1_i32_4 k2_t1
  let c512_i32 : BitVec 32 := 512#32
  let v12 : BitVec 32 := Scalar.muli arg10 c512_i32
  let v18 : Index := Scalar.indexCast v12
  let c0_12 : Index := 0#32
  ![v18.toNat, 0]
def k2_off3 (k2_t1 : Fin k2_t1_loop.trips) : Fin 2 → Nat :=
  let c0_i32_3 : BitVec 32 := 0#32
  let c1_i32_4 : BitVec 32 := 1#32
  let arg10 : BitVec 32 := Scf.iv c0_i32_3 c1_i32_4 k2_t1
  let c512_i32 : BitVec 32 := 512#32
  let v12 : BitVec 32 := Scalar.muli arg10 c512_i32
  let v20 : Index := Scalar.indexCast v12
  let c0_13 : Index := 0#32
  ![v20.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![c0_i32.toNat, v1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![c0_i32.toNat, v1.toNat]

def cc2_transform_6 (i : grid2.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![c0_i32.toNat, v1.toNat]

abbrev stage2_0 : Fin 1 → Memref sig .tc .vmem S2048x11008 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S256x11008 .i8 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S1x2x11008 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2048x256 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S2048x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S2048x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== ReferenceIdeal.lean ====
abbrev S2x1024x4096 : Shape := ⟨3, ![2, 1024, 4096]⟩
abbrev S4096 : Shape := ⟨1, ![4096]⟩
abbrev S4096x11008 : Shape := ⟨2, ![4096, 11008]⟩
abbrev S2048x11008 : Shape := ⟨2, ![2048, 11008]⟩
abbrev S32x11008 : Shape := ⟨2, ![32, 11008]⟩
abbrev S2048x4096 : Shape := ⟨2, ![2048, 4096]⟩
abbrev S1x4096 : Shape := ⟨2, ![1, 4096]⟩
abbrev S1x11008 : Shape := ⟨2, ![1, 11008]⟩
abbrev S1x2048 : Shape := ⟨2, ![1, 2048]⟩
abbrev S2048 : Shape := ⟨1, ![2048]⟩
abbrev S2048x1 : Shape := ⟨2, ![2048, 1]⟩
abbrev S16x11008 : Shape := ⟨2, ![16, 11008]⟩
abbrev S16x1x11008 : Shape := ⟨3, ![16, 1, 11008]⟩
abbrev S16x128x11008 : Shape := ⟨3, ![16, 128, 11008]⟩
abbrev S2048x2048 : Shape := ⟨2, ![2048, 2048]⟩
abbrev S11008 : Shape := ⟨1, ![11008]⟩

abbrev nBuf : Space → Nat
  | .hbm => 14
  | .vmem => 11
  | .smem => 0
  | _ => 0

abbrev bufTy : (tb : Table) → Fin (tcTables nBuf tb) → BufTy
  | .hbm, ⟨0, _⟩ => ⟨S2x1024x4096, .bf16⟩
  | .hbm, ⟨1, _⟩ => ⟨S4096, .f32⟩
  | .hbm, ⟨2, _⟩ => ⟨S4096, .f32⟩
  | .hbm, ⟨3, _⟩ => ⟨S4096x11008, .bf16⟩
  | .hbm, ⟨4, _⟩ => ⟨S2048x11008, .i8⟩
  | .hbm, ⟨5, _⟩ => ⟨S32x11008, .f32⟩
  | .hbm, ⟨6, _⟩ => ⟨S2048x4096, .bf16⟩
  | .hbm, ⟨7, _⟩ => ⟨S1x4096, .f32⟩
  | .hbm, ⟨8, _⟩ => ⟨S1x4096, .f32⟩
  | .hbm, ⟨9, _⟩ => ⟨S1x11008, .f32⟩
  | .hbm, ⟨10, _⟩ => ⟨S1x4096, .f32⟩
  | .hbm, ⟨11, _⟩ => ⟨S2048x4096, .f32⟩
  | .hbm, ⟨12, _⟩ => ⟨S2048x4096, .i8⟩
  | .hbm, ⟨13, _⟩ => ⟨S1x2048, .f32⟩
  | .local _ .vmem, ⟨0, _⟩ => ⟨S2048x4096, .bf16⟩
  | .local _ .vmem, ⟨1, _⟩ => ⟨S1x4096, .f32⟩
  | .local _ .vmem, ⟨2, _⟩ => ⟨S1x4096, .f32⟩
  | .local _ .vmem, ⟨3, _⟩ => ⟨S4096x11008, .bf16⟩
  | .local _ .vmem, ⟨4, _⟩ => ⟨S2048x11008, .i8⟩
  | .local _ .vmem, ⟨5, _⟩ => ⟨S32x11008, .f32⟩
  | .local _ .vmem, ⟨6, _⟩ => ⟨S1x11008, .f32⟩
  | .local _ .vmem, ⟨7, _⟩ => ⟨S1x4096, .f32⟩
  | .local _ .vmem, ⟨8, _⟩ => ⟨S2048x4096, .f32⟩
  | .local _ .vmem, ⟨9, _⟩ => ⟨S2048x4096, .i8⟩
  | .local _ .vmem, ⟨10, _⟩ => ⟨S1x2048, .f32⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x11008 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x11008 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x11008 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x11008 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x4096 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Spec.lean ====
/-
  THE MATHEMATICS, at an index. What the two programs compute, as functions of plain coordinates: the normalization of a
  token's row, its quantization, the two halves of the unpacked weight, the two products, the KL terms of one output
  column, and the gradients. Both programs' vector expressions are read down to these functions, each in a module of its
  own; nothing here mentions a program.
-/
module

public import Idealize.ShloMosaic.Lib.Pointwise

@[expose] public section

noncomputable section

open Idealize.ShloMosaic

namespace Cert.Spec

/-- The reciprocal root mean square of token row `r`. -/
def rinv (X : Fin 2048 → Fin 4096 → EReal) (r : Fin 2048) : EReal :=
  Ideal.rsqrt (Ideal.div (∑ k, X r k * X r k) (Ideal.ofBits .f32 0x45800000#32) + Ideal.ofBits .f32 0x358637BD#32)

/-- The normalized activation. -/
def nrm (X : Fin 2048 → Fin 4096 → EReal) (r : Fin 2048) (k : Fin 4096) : EReal := X r k * rinv X r

/-- The normalized activation times a gain. -/
def gained (X : Fin 2048 → Fin 4096 → EReal) (G : Fin 4096 → EReal) (r : Fin 2048) (k : Fin 4096) : EReal :=
  nrm X r k * G k

/-- The largest magnitude of a token's row. -/
def amax (X : Fin 2048 → Fin 4096 → EReal) (G : Fin 4096 → EReal) (r : Fin 2048) : Ideal .f32 :=
  Finset.fold (β := Ideal .f32) max (Ideal.ofBits .f32 0xFF800000#32)
    (fun k => FloatOps.absf (F := Ideal) (φ := .f32) (gained X G r k)) Finset.univ

/-- The quantization step of a row whose largest magnitude is `a`. -/
def stepOf (a : Ideal .f32) : Ideal .f32 :=
  if (0 : Ideal .f32) < a then Ideal.div a (Ideal.ofBits .f32 0x42FE0000#32) else (1 : Ideal .f32)

/-- The token's quantization step. -/
def scale (X : Fin 2048 → Fin 4096 → EReal) (G : Fin 4096 → EReal) (r : Fin 2048) : EReal := stepOf (amax X G r)

/-- A quotient rounded to an integer, clipped to ±127 and converted. -/
def codeOf (a : Ideal .f32) : BitVec 8 :=
  FloatOps.fptosi (F := Ideal) (φ := .f32) 8 (min (α := Ideal .f32) (Ideal.ofBits .f32 0x42FE0000#32)
    (max (α := Ideal .f32) (Ideal.ofBits .f32 0xC2FE0000#32) (Ideal.liftRound Ideal.roundHalfEven a)))

/-- The token's codes: the gained activation over the step, rounded, clipped and converted. -/
def code (X : Fin 2048 → Fin 4096 → EReal) (G : Fin 4096 → EReal) (r : Fin 2048) (k : Fin 4096) : BitVec 8 :=
  codeOf (Ideal.div (gained X G r k) (scale X G r))

/-- A code as a number. -/
def codeVal (b : BitVec 8) : EReal := FloatOps.sitofp (F := Ideal) .bf16 b

/-- A four-bit word (0 … 15) with its sign: 8 … 15 stand for −8 … −1. -/
def signed4 (v : BitVec 32) : BitVec 32 :=
  Scalar.select (IntOp.cmpi .sge v 8#32) (IntOp.subi v 16#32) v

/-- The low four bits of a packed byte, as a signed number. -/
def nibLo (b : BitVec 8) : EReal :=
  FloatOps.sitofp (F := Ideal) .bf16 (signed4 (IntOp.andi (b.setWidth 32) 15#32))

/-- The high four bits of a packed byte, as a signed number. -/
def nibHi (b : BitVec 8) : EReal :=
  FloatOps.sitofp (F := Ideal) .bf16 (signed4 (IntOp.shrsi .vector (b.setWidth 32) 4#32))

/-- The scale row of weight row `k` of the lower half. -/
def rowLo (k : Fin 2048) : Fin 32 := ⟨k.val / 128, by omega⟩

/-- The scale row of weight row `k` of the upper half. -/
def rowHi (k : Fin 2048) : Fin 32 := ⟨16 + k.val / 128, by omega⟩

/-- The weight's lower half: rows 0 … 2047. -/
def wLo (P : Fin 2048 → Fin 11008 → BitVec 8) (S : Fin 32 → Fin 11008 → EReal) (k : Fin 2048) (o : Fin 11008) : EReal :=
  nibLo (P k o) * S (rowLo k) o

/-- The weight's upper half: rows 2048 … 4095. -/
def wHi (P : Fin 2048 → Fin 11008 → BitVec 8) (S : Fin 32 → Fin 11008 → EReal) (k : Fin 2048) (o : Fin 11008) : EReal :=
  nibHi (P k o) * S (rowHi k) o

/-- Column `x` of the lower half of a row of 4096. -/
def colLo (x : Fin 2048) : Fin 4096 := ⟨x.val, by omega⟩

/-- Column `2048 + x` of a row of 4096. -/
def colHi (x : Fin 2048) : Fin 4096 := ⟨2048 + x.val, by omega⟩

/-- The reference model's product. -/
def yF (X : Fin 2048 → Fin 4096 → EReal) (G0 : Fin 4096 → EReal) (R : Fin 4096 → Fin 11008 → EReal)
    (o : Fin 11008) (r : Fin 2048) : EReal := ∑ k, gained X G0 r k * R k o

/-- The quantized model's product: codes times unpacked weight, times the token's step. -/
def yQ (X : Fin 2048 → Fin 4096 → EReal) (G : Fin 4096 → EReal) (P : Fin 2048 → Fin 11008 → BitVec 8)
    (S : Fin 32 → Fin 11008 → EReal) (o : Fin 11008) (r : Fin 2048) : EReal :=
  (∑ x, codeVal (code X G r (colLo x)) * wLo P S x o + ∑ x, codeVal (code X G r (colHi x)) * wHi P S x o) * scale X G r

/-- The mean over the tokens of one column. -/
def mean (f : Fin 2048 → EReal) : EReal := Ideal.div (∑ r, f r) (Ideal.ofBits .f32 0x45000000#32)

/-- A column's deviation from its mean. -/
def dev (f : Fin 2048 → EReal) (r : Fin 2048) : EReal := f r - mean f

/-- A column's variance over the tokens. -/
def var (f : Fin 2048 → EReal) : EReal := Ideal.div (∑ r, dev f r * dev f r) (Ideal.ofBits .f32 0x45000000#32)

/-- The reference variance plus the squared difference of the means. -/
def num (f q : Fin 2048 → EReal) : EReal := var f + (mean f - mean q) * (mean f - mean q)

/-- The KL divergence of the two columns' Gaussians. -/
def kl (f q : Fin 2048 → EReal) : EReal :=
  Ideal.ofBits .f32 0x3F000000#32 * Ideal.log (Ideal.div (var q) (var f))
    + Ideal.div (num f q) (Ideal.ofBits .f32 0x40000000#32 * var q) - Ideal.ofBits .f32 0x3F000000#32

/-- The gradient of the mean KL in the quantized column's mean. -/
def gMean (f q : Fin 2048 → EReal) : EReal :=
  Ideal.div (Ideal.div (0 - (mean f - mean q)) (var q)) (Ideal.ofBits .f32 0x462C0000#32)

/-- The gradient of the mean KL in the quantized column's variance. -/
def gVar (f q : Fin 2048 → EReal) : EReal :=
  Ideal.div (Ideal.div (Ideal.ofBits .f32 0x3F000000#32) (var q)
      - Ideal.div (num f q) (Ideal.ofBits .f32 0x40000000#32 * var q * var q)) (Ideal.ofBits .f32 0x462C0000#32)

/-- The gradient in the quantized product. -/
def dy (f q : Fin 2048 → EReal) (r : Fin 2048) : EReal :=
  Ideal.div (gMean f q + Ideal.ofBits .f32 0x40000000#32 * dev q r * gVar f q) (Ideal.ofBits .f32 0x45000000#32)

/-- The gradient in the quantized product, of the program's arguments: token `r`, column `o`. -/
def dyAt (X : Fin 2048 → Fin 4096 → EReal) (G0 G : Fin 4096 → EReal) (R : Fin 4096 → Fin 11008 → EReal)
    (P : Fin 2048 → Fin 11008 → BitVec 8) (S : Fin 32 → Fin 11008 → EReal) (r : Fin 2048) (o : Fin 11008) : EReal :=
  dy (yF X G0 R o) (yQ X G P S o) r

/-- The KL of one output column, of the program's arguments. -/
def klAt (X : Fin 2048 → Fin 4096 → EReal) (G0 G : Fin 4096 → EReal) (R : Fin 4096 → Fin 11008 → EReal)
    (P : Fin 2048 → Fin 11008 → BitVec 8) (S : Fin 32 → Fin 11008 → EReal) (o : Fin 11008) : EReal :=
  kl (yF X G0 R o) (yQ X G P S o)

/-- The weight's row `c` of 4096. -/
def w (P : Fin 2048 → Fin 11008 → BitVec 8) (S : Fin 32 → Fin 11008 → EReal) (c : Fin 4096) (o : Fin 11008) : EReal :=
  if h : c.val < 2048 then wLo P S ⟨c.val, h⟩ o else wHi P S ⟨c.val - 2048, by omega⟩ o

/-- The gradient in the hidden activation. -/
def dh (X : Fin 2048 → Fin 4096 → EReal) (G0 G : Fin 4096 → EReal) (R : Fin 4096 → Fin 11008 → EReal)
    (P : Fin 2048 → Fin 11008 → BitVec 8) (S : Fin 32 → Fin 11008 → EReal) (r : Fin 2048) (c : Fin 4096) : EReal :=
  ∑ o, dyAt X G0 G R P S r o * w P S c o

/-- The gradient in the gain. -/
def dg (X : Fin 2048 → Fin 4096 → EReal) (G0 G : Fin 4096 → EReal) (R : Fin 4096 → Fin 11008 → EReal)
    (P : Fin 2048 → Fin 11008 → BitVec 8) (S : Fin 32 → Fin 11008 → EReal) (c : Fin 4096) : EReal :=
  ∑ r, dh X G0 G R P S r c * nrm X r c

/-- The largest entry of a row, at an index. -/
theorem max_row {m n : Nat} (v : FVec Ideal ⟨2, ![m, n]⟩ .f32) (h : (⟨2, ![m, n]⟩ : Shape).Reduces [1] ⟨1, ![m]⟩)
    (hφ : FKind.Formats .f32) (ha : 0xFF800000#32 = FKind.maximumf.neutral .f32 hφ) (r : Fin m) :
    multiReduction (F := Ideal) .maximumf [1] ⟨1, ![m]⟩ v 0xFF800000#32 h hφ ha (ix1 r)
      = Finset.fold (β := Ideal .f32) max (Ideal.ofBits .f32 0xFF800000#32) (fun k => v (ix2 r k)) Finset.univ := by
  rw [multiReduction_maximumf_eq_fold]
  simp only [Ideal.maximumf_eq_max]
  rw [Shape.Reduces.fold_fiber_r2_a1]
  rfl

/-- The steps of a column of largest magnitudes, as the programs spell them. -/
theorem step_read {m : ℕ} (v : FVec Ideal ⟨2, ![m, 1]⟩ .f32) (r : Fin m) :
    select (cmpf .ogt v (broadcast ⟨2, ![m, 1]⟩ (Scalar.ofBits (F := Ideal) .f32 0x00000000#32)))
      (divf v (broadcast ⟨2, ![m, 1]⟩ (Scalar.ofBits (F := Ideal) .f32 0x42FE0000#32)))
      (broadcast ⟨2, ![m, 1]⟩ (Scalar.ofBits (F := Ideal) .f32 0x3F800000#32)) (ix2 r 0) = stepOf (v (ix2 r 0)) := by
  pointwise
  rfl

end Cert.Spec

end
-- ==== Proof.Nibbles.lean ====
/-
  THE PACKED BYTES. The kernel reads four bytes of a column as one word, masks (or shifts and masks) the words, reads the
  result as bytes again, converts and multiplies by 1/16. Over the reals that is the signed value of the byte's high (low)
  four bits, which is how the reference reads them.
-/
module

public import proofs.«01_k».proof.Proof.Spec
public import Idealize.ShloMosaic.Lib.BitcastFour
public import Idealize.ShloMosaic.Lib.IdealHost
public import Idealize.ShloMosaic.Lib.Pointwise.IndexBridge

@[expose] public section

set_option maxRecDepth 16384

noncomputable section

open Idealize.ShloMosaic

namespace Cert.Nibbles

/-- Words read as bytes: bit `i` of byte row `p` is bit `8 (p % 4) + i` of word row `p / 4`. -/
theorem bytes_of_words {R r n : Nat} (z : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4)
    (i : Nat) (hi : i < 8) :
    (bitcast ⟨2, ![R, n]⟩ 8 z h (ValueIdx.ix2 p l)).getLsbD i = (z (ValueIdx.ix2 a l)).getLsbD (8 * (p.val % 4) + i) := by
  rw [bitcast_getLsbD z h _ i hi (by decide)]
  have hrow : (⟨2, ![R, n]⟩ : Shape).row (ValueIdx.ix2 p l) = p.val := rfl
  have e1 : ((⟨2, ![R, n]⟩ : Shape).row (ValueIdx.ix2 p l) * 8 + i) / 32 = a.val := by rw [hrow]; omega
  have e2 : ((⟨2, ![R, n]⟩ : Shape).row (ValueIdx.ix2 p l) * 8 + i) % 32 = 8 * (p.val % 4) + i := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The mask keeps the upper half of every byte of a word. -/
theorem mask_bit : ∀ b : Fin 4, ∀ i : Fin 8,
    (4042322160#32 : BitVec 32).getLsbD (8 * b.val + i.val) = decide (4 ≤ i.val) := by decide

/-- The mask of one byte. -/
theorem mask_bit8 : ∀ i : Fin 8, (0xF0#8 : BitVec 8).getLsbD i.val = decide (4 ≤ i.val) := by decide

/-- Masking the words masks every byte. -/
theorem high_bytes {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (p : Fin R) (l : Fin n) :
    bitcast ⟨2, ![R, n]⟩ 8 (andi (bitcast ⟨2, ![r, n]⟩ 32 x h) (broadcast ⟨2, ![r, n]⟩ 4042322160#32)) h' (ix2 p l)
      = x (ix2 p l) &&& 0xF0#8 := by
  rw [ix2_eq_valueIdx]
  apply BitVec.eq_of_getLsbD_eq
  intro i hi
  rw [bytes_of_words _ h' p l ⟨p.val / 4, by omega⟩ rfl i hi]
  show (IntOp.andi (bitcast ⟨2, ![r, n]⟩ 32 x h (ValueIdx.ix2 ⟨p.val / 4, _⟩ l)) 4042322160#32).getLsbD _ = _
  unfold IntOp.andi
  rw [BitVec.getLsbD_and, BitVec.getLsbD_and, bitcast_8_32_getLsbD_ix2 x h _ l _ (by omega) p (by simp only; omega),
    mask_bit8 ⟨i, hi⟩, mask_bit ⟨p.val % 4, Nat.mod_lt _ (by decide)⟩ ⟨i, hi⟩]
  congr 2
  omega

/-- Shifting the words left by four and masking them shifts and masks every byte. -/
theorem low_bytes {R r n : Nat} (x : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (hR : R = 4 * r) (p : Fin R) (l : Fin n) :
    bitcast ⟨2, ![R, n]⟩ 8 (andi (shli (bitcast ⟨2, ![r, n]⟩ 32 x h) (broadcast ⟨2, ![r, n]⟩ 4#32))
        (broadcast ⟨2, ![r, n]⟩ 4042322160#32)) h' (ix2 p l)
      = (x (ix2 p l) <<< 4) &&& 0xF0#8 := by
  rw [ix2_eq_valueIdx]
  apply BitVec.eq_of_getLsbD_eq
  intro i hi
  rw [bytes_of_words _ h' p l ⟨p.val / 4, by omega⟩ rfl i hi]
  show (IntOp.andi (IntOp.shli .vector (bitcast ⟨2, ![r, n]⟩ 32 x h (ValueIdx.ix2 ⟨p.val / 4, _⟩ l)) 4#32)
    4042322160#32).getLsbD _ = _
  have hs : ∀ b : BitVec 32, IntOp.shli .vector b 4#32 = b <<< 4 := fun b => rfl
  rw [hs]
  unfold IntOp.andi
  rw [BitVec.getLsbD_and, BitVec.getLsbD_and, mask_bit8 ⟨i, hi⟩,
    mask_bit ⟨p.val % 4, Nat.mod_lt _ (by decide)⟩ ⟨i, hi⟩, BitVec.getLsbD_shiftLeft, BitVec.getLsbD_shiftLeft]
  by_cases h4 : 4 ≤ i
  · rw [bitcast_8_32_getLsbD_ix2 x h _ l _ (by omega) p (by simp only; omega)]
    have e : (8 * (p.val % 4) + i - 4) % 8 = i - 4 := by omega
    have d1 : ¬ 8 * (p.val % 4) + i < 4 := by omega
    have d2 : ¬ i < 4 := by omega
    have d3 : 8 * (p.val % 4) + i < 32 := by omega
    simp [e, d1, d2, d3, hi]
  · simp [h4]

/-- A byte's upper half, kept in place, is sixteen times its signed value. -/
theorem toInt_high : ∀ b : BitVec 8,
    (b &&& 0xF0#8).toInt = 16 * (Spec.signed4 (IntOp.shrsi .vector (b.setWidth 32) 4#32)).toInt := by
  decide +kernel

/-- A byte's lower half, moved to the upper, is sixteen times its signed value. -/
theorem toInt_low : ∀ b : BitVec 8,
    ((b <<< 4) &&& 0xF0#8).toInt = 16 * (Spec.signed4 (IntOp.andi (b.setWidth 32) 15#32)).toInt := by
  decide +kernel

/-- Sixteen times an integer, times one sixteenth. -/
theorem sixteenth (m k : Int) (h : m = 16 * k) :
    ((m : ℝ) : EReal) * Ideal.ofBits .bf16 0x3D80#16 = ((k : ℝ) : EReal) := by
  rw [Ideal.ofBits_sixteenth_bf16, ← EReal.coe_mul, h]
  congr 1
  push_cast
  ring

/-- The kernel's reading of the high four bits is the reference's. -/
theorem high_val (b : BitVec 8) :
    FloatOps.sitofp (F := Ideal) .bf16 (b &&& 0xF0#8) * Ideal.ofBits .bf16 0x3D80#16 = Spec.nibHi b :=
  sixteenth _ _ (toInt_high b)

/-- The kernel's reading of the low four bits is the reference's. -/
theorem low_val (b : BitVec 8) :
    FloatOps.sitofp (F := Ideal) .bf16 ((b <<< 4) &&& 0xF0#8) * Ideal.ofBits .bf16 0x3D80#16 = Spec.nibLo b :=
  sixteenth _ _ (toInt_low b)

end Cert.Nibbles

end
-- ==== Proof.Block0.lean ====
/-
  THE FIRST CALL'S BLOCK: what one grid point stores, at an index. The block holds 128 token rows; `row r` is the place of
  its row `r` among all the tokens.
-/
module

public import proofs.«01_k».proof.Proof.Nibbles
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.KernelIdeal.Block0

variable (X : Fin 2048 → Fin 4096 → EReal) (G : Fin 4096 → EReal) (row : Fin 128 → Fin 2048)
  (x : Vec Ideal S128x4096 .bf16) (g : Vec Ideal S1x4096 .f32)

/-- The block's reciprocal root mean squares. -/
theorem rinv_at (hx : ∀ r k, x (ix2 r k) = X (row r) k) (r : Fin 128) :
    k0_pay5 (F := Ideal) x (ix2 r 0) = Spec.rinv X (row r) := by
  pointwise [k0_pay5, k0_pay4]
  simp only [hx]
  rfl

/-- … broadcast along the lanes. -/
theorem rrow_at (v : FVec Ideal S128x1 .f32) (r l : Fin 128) :
    k0_pay2 (F := Ideal) v (ix2 r l) = v (ix2 r 0) := by
  pointwise [k0_pay2]

/-- The block's steps broadcast along the lanes. -/
theorem srow_at (v : FVec Ideal S128x1 .f32) (r l : Fin 128) :
    k0_pay1 (F := Ideal) v (ix2 r l) = v (ix2 r 0) := by
  pointwise [k0_pay1]

/-- The block's normalized activations. -/
theorem nrm_at (hx : ∀ r k, x (ix2 r k) = X (row r) k) (r : Fin 128) (k : Fin 4096) :
    k0_pay6 (F := Ideal) x (ix2 r k) = Spec.nrm X (row r) k := by
  pointwise [k0_pay6, k0_pay4]
  rw [rinv_at X row x hx, hx]
  rfl

/-- The block's gained activations (the reference model's). -/
theorem hf_at (hx : ∀ r k, x (ix2 r k) = X (row r) k) (hg : ∀ k, g (ix2 0 k) = G k) (r : Fin 128) (k : Fin 4096) :
    k0_pay7 (F := Ideal) x g (ix2 r k) = Spec.gained X G (row r) k := by
  pointwise [k0_pay7]
  rw [nrm_at X row x hx, hg]
  rfl

/-- The block's gained activations (the quantized model's). -/
theorem h_at (hx : ∀ r k, x (ix2 r k) = X (row r) k) (hg : ∀ k, g (ix2 0 k) = G k) (r : Fin 128) (k : Fin 4096) :
    k0_pay8 (F := Ideal) x g (ix2 r k) = Spec.gained X G (row r) k := by
  pointwise [k0_pay8]
  rw [nrm_at X row x hx, hg]
  rfl

/-- A vector cast to a column. -/
theorem col_read (v : FVec Ideal S128 .f32) (r : Fin 128) :
    shapeCast S128x1 v shapeCasts_S128_S128x1 (ix2 r 0) = v (ix1 r) := by
  pointwise

/-- The magnitudes of the gained activations. -/
theorem mag_at (hx : ∀ r k, x (ix2 r k) = X (row r) k) (hg : ∀ k, g (ix2 0 k) = G k) (r : Fin 128) (k : Fin 4096) :
    absf (k0_pay8 (F := Ideal) x g) (ix2 r k) = FloatOps.absf (F := Ideal) (φ := .f32) (Spec.gained X G (row r) k) := by
  pointwise
  rw [h_at X G row x g hx hg]

/-- The largest magnitude of a row. -/
theorem amax_at (hx : ∀ r k, x (ix2 r k) = X (row r) k) (hg : ∀ k, g (ix2 0 k) = G k) (r : Fin 128) :
    multiReduction (F := Ideal) .maximumf [1] S128 (absf (k0_pay8 (F := Ideal) x g)) 0xFF800000#32
      reduces_S128x4096_S128 (.inl rfl) rfl (ix1 r) = Spec.amax X G (row r) := by
  refine (Spec.max_row _ _ _ _ r).trans ?_
  unfold Spec.amax
  simp only [mag_at X G row x g hx hg]

/-- The steps, spelled out. -/
theorem scale_eq : k0_pay9 (F := Ideal) x g
    = select (cmpf .ogt (shapeCast S128x1 (multiReduction .maximumf [1] S128 (absf (k0_pay8 (F := Ideal) x g)) 0xFF800000#32
        reduces_S128x4096_S128 (.inl rfl) rfl) shapeCasts_S128_S128x1) (broadcast S128x1 (Scalar.ofBits (F := Ideal) .f32 0x00000000#32)))
      (divf (shapeCast S128x1 (multiReduction .maximumf [1] S128 (absf (k0_pay8 (F := Ideal) x g)) 0xFF800000#32
        reduces_S128x4096_S128 (.inl rfl) rfl) shapeCasts_S128_S128x1) (broadcast S128x1 (Scalar.ofBits (F := Ideal) .f32 0x42FE0000#32)))
      (broadcast S128x1 (Scalar.ofBits (F := Ideal) .f32 0x3F800000#32)) := by
  unfold k0_pay9
  rfl

/-- The block's steps. -/
theorem scale_at (hx : ∀ r k, x (ix2 r k) = X (row r) k) (hg : ∀ k, g (ix2 0 k) = G k) (r : Fin 128) :
    k0_pay9 (F := Ideal) x g (ix2 r 0) = Spec.scale X G (row r) := by
  rw [scale_eq]
  refine (Spec.step_read _ r).trans ?_
  rw [col_read, amax_at X G row x g hx hg]
  rfl

/-- A quotient's codes, at an index. -/
theorem code_read (h : FVec Ideal S128x4096 .f32) (s : FVec Ideal S128x1 .f32) (r : Fin 128) (k : Fin 4096) :
    fptosi 8 (minimumf (broadcast S128x4096 (Scalar.ofBits (F := Ideal) .f32 0x42FE0000#32))
      (maximumf (broadcast S128x4096 (Scalar.ofBits (F := Ideal) .f32 0xC2FE0000#32))
        (roundeven (divf h (broadcastTo S128x4096 s broadcasts_S128x1_S128x4096))))) (ix2 r k)
      = Spec.codeOf (Ideal.div (h (ix2 r k)) (s (ix2 r 0))) := by
  pointwise
  rfl

/-- The codes, spelled out. -/
theorem code_eq : k0_pay10 (F := Ideal) x g
    = fptosi 8 (minimumf (broadcast S128x4096 (Scalar.ofBits (F := Ideal) .f32 0x42FE0000#32))
      (maximumf (broadcast S128x4096 (Scalar.ofBits (F := Ideal) .f32 0xC2FE0000#32))
        (roundeven (divf (k0_pay8 (F := Ideal) x g) (broadcastTo S128x4096 (k0_pay9 (F := Ideal) x g) broadcasts_S128x1_S128x4096))))) := by
  unfold k0_pay10
  rfl

/-- The block's codes. -/
theorem code_at (hx : ∀ r k, x (ix2 r k) = X (row r) k) (hg : ∀ k, g (ix2 0 k) = G k) (r : Fin 128) (k : Fin 4096) :
    k0_pay10 (F := Ideal) x g (ix2 r k) = Spec.code X G (row r) k := by
  rw [code_eq]
  refine (code_read _ _ r k).trans ?_
  rw [h_at X G row x g hx hg, scale_at X G row x g hx hg]
  rfl

/-- Two coordinates below 128 are one word exactly when they are equal. -/
theorem eq_word (a b : Fin 128) :
    IntOp.cmpi .eq (BitVec.ofNat 32 a.val) (BitVec.ofNat 32 b.val) = if a = b then 1#1 else 0#1 := by
  show BitVec.ofBool (BitVec.ofNat 32 a.val == BitVec.ofNat 32 b.val) = _
  by_cases h : a = b
  · rw [if_pos h, h, beq_self_eq_true]; rfl
  · rw [if_neg h]
    have hne : (BitVec.ofNat 32 a.val == BitVec.ofNat 32 b.val) = false := by
      refine beq_false_of_ne fun e => h (Fin.ext ?_)
      have e' := congrArg BitVec.toNat e
      simp only [BitVec.toNat_ofNat] at e'
      omega
    rw [hne]; rfl

/-- The steps transposed into a row: of the steps broadcast along the lanes, the entries on the diagonal, the others
    replaced by zero, summed down each column. -/
theorem diag_at (v : FVec Ideal S128x1 .f32) (r : Fin 128) : k0_pay3 (F := Ideal) v (ix2 0 r) = v (ix2 r 0) := by
  pointwise [k0_pay3]
  simp only [srow_at, eq_word]
  rw [Finset.sum_eq_single r]
  · rw [if_pos rfl]; rfl
  · intro b _ hb
    rw [if_neg hb]; rfl
  · intro h; exact absurd (Finset.mem_univ r) h

end Cert.KernelIdeal.Block0

end
-- ==== Proof.Block1.lean ====
/-
  THE SECOND CALL'S BLOCK: what one grid point stores, at an index. The block holds all the tokens and 256 output columns;
  `col o` is the place of its column `o` among all the columns.
-/
module

public import proofs.«01_k».proof.Proof.Block0
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.KernelIdeal.Block1

/-- The reference model's product over the block's columns. -/
theorem yF_at (h : Vec Ideal S2048x4096 .bf16) (w : Vec Ideal S4096x256 .bf16) (r : Fin 2048) (o : Fin 256) :
    k1_pay2 (F := Ideal) h w (ix2 r o) = (∑ k, h (ix2 r k) * w (ix2 k o) : EReal) := by
  pointwise [k1_pay2]

/-- The upper half of the weight over the block's columns. -/
theorem wHi_at (p : Vec Ideal S2048x256 .i8) (s : Vec Ideal S16x256 .f32) (k : Fin 2048) (o : Fin 256) :
    k1_pay4 (F := Ideal) p s (ix2 k o) = Spec.nibHi (p (ix2 k o)) * s (ix2 ⟨k.val / 128, by omega⟩ o) := by
  pointwise [k1_pay4, k1_pay3]
  rw [Nibbles.high_bytes p bitcasts_S2048x256_w8_S512x256_w32 bitcasts_S512x256_w32_S2048x256_w8 rfl, Nibbles.high_val]

/-- The first half of the quantized product over the block's columns. -/
theorem lo_at (p : Vec Ideal S2048x256 .i8) (s : Vec Ideal S16x256 .f32) (c : Vec Ideal S2048x2048 .i8)
    (r : Fin 2048) (o : Fin 256) :
    k1_pay5 (F := Ideal) p s c (ix2 r o)
      = ∑ x, Spec.codeVal (c (ix2 r x)) * (Spec.nibLo (p (ix2 x o)) * s (ix2 ⟨x.val / 128, by omega⟩ o)) := by
  pointwise [k1_pay5, k1_pay3]
  refine Finset.sum_congr rfl fun x _ => ?_
  rw [Nibbles.low_bytes p bitcasts_S2048x256_w8_S512x256_w32 bitcasts_S512x256_w32_S2048x256_w8 rfl, Nibbles.low_val]
  rfl

/-- The quantized product over the block's columns, from its first half and the upper half of the weight. -/
theorem yQ_at (w : FVec Ideal S2048x256 .bf16) (l : FVec Ideal S2048x256 .f32) (c : Vec Ideal S2048x2048 .i8)
    (s : Vec Ideal S2048x128 .f32) (sc : Fin 2048 → EReal) (hs : ∀ r j, s (ix2 r j) = sc r) (r : Fin 2048) (o : Fin 256) :
    k1_pay6 (F := Ideal) w l c s (ix2 r o) = (l (ix2 r o) + ∑ x, Spec.codeVal (c (ix2 r x)) * w (ix2 x o)) * sc r := by
  pointwise [k1_pay6]
  simp only [hs, dite_eq_ite, ite_self]
  rfl

section Stats

variable (v : FVec Ideal S2048x256 .f32) (w : FVec Ideal S2048x256 .bf16) (l : FVec Ideal S2048x256 .f32)
  (c : Vec Ideal S2048x2048 .i8) (s : Vec Ideal S2048x128 .f32) (o : Fin 256) (f q : Fin 2048 → EReal)

/-- The mean of a column of the reference product. -/
theorem meanF_at (hf : ∀ r, v (ix2 r o) = f r) : k1_pay7 (F := Ideal) v (ix2 0 o) = Spec.mean f := by
  pointwise [k1_pay7]
  simp only [hf]
  rfl

/-- The variance of a column of the reference product. -/
theorem varF_at (hf : ∀ r, v (ix2 r o) = f r) : k1_pay8 (F := Ideal) v (ix2 0 o) = Spec.var f := by
  pointwise [k1_pay8]
  simp only [hf, meanF_at v o f hf]
  rfl

/-- The mean of a column of the quantized product. -/
theorem meanQ_at (hq : ∀ r, k1_pay6 (F := Ideal) w l c s (ix2 r o) = q r) :
    k1_pay9 (F := Ideal) w l c s (ix2 0 o) = Spec.mean q := by
  pointwise [k1_pay9]
  simp only [hq]
  rfl

/-- The deviations of a column of the quantized product. -/
theorem devQ_at (hq : ∀ r, k1_pay6 (F := Ideal) w l c s (ix2 r o) = q r) (r : Fin 2048) :
    k1_pay10 (F := Ideal) w l c s (ix2 r o) = Spec.dev q r := by
  pointwise [k1_pay10]
  rw [hq, meanQ_at w l c s o q hq]
  rfl

/-- The variance of a column of the quantized product. -/
theorem varQ_at (hq : ∀ r, k1_pay6 (F := Ideal) w l c s (ix2 r o) = q r) :
    k1_pay11 (F := Ideal) w l c s (ix2 0 o) = Spec.var q := by
  pointwise [k1_pay11]
  simp only [devQ_at w l c s o q hq]
  rfl

/-- The difference of the two means. -/
theorem dmu_at (hf : ∀ r, v (ix2 r o) = f r) (hq : ∀ r, k1_pay6 (F := Ideal) w l c s (ix2 r o) = q r) :
    k1_pay12 (F := Ideal) v w l c s (ix2 0 o) = Spec.mean f - Spec.mean q := by
  pointwise [k1_pay12]
  rw [meanF_at v o f hf, meanQ_at w l c s o q hq]

/-- The numerator of the KL. -/
theorem num_at (hf : ∀ r, v (ix2 r o) = f r) (hq : ∀ r, k1_pay6 (F := Ideal) w l c s (ix2 r o) = q r) :
    k1_pay13 (F := Ideal) v w l c s (ix2 0 o) = Spec.num f q := by
  pointwise [k1_pay13]
  rw [varF_at v o f hf, dmu_at v w l c s o f q hf hq]
  rfl

/-- The KL of a column. -/
theorem kl_at (hf : ∀ r, v (ix2 r o) = f r) (hq : ∀ r, k1_pay6 (F := Ideal) w l c s (ix2 r o) = q r) :
    k1_pay14 (F := Ideal) v w l c s (ix2 0 o) = Spec.kl f q := by
  pointwise [k1_pay14]
  rw [varF_at v o f hf, varQ_at w l c s o q hq, num_at v w l c s o f q hf hq]
  rfl

end Stats

/-- The gradient in the quantized product. -/
theorem dy_at (d : FVec Ideal S2048x256 .f32) (vq dm n : FVec Ideal S1x256 .f32) (f q : Fin 2048 → EReal)
    (r : Fin 2048) (o : Fin 256) (hd : d (ix2 r o) = Spec.dev q r) (hv : vq (ix2 0 o) = Spec.var q)
    (hm : dm (ix2 0 o) = Spec.mean f - Spec.mean q) (hn : n (ix2 0 o) = Spec.num f q) :
    k1_pay1 (F := Ideal) d vq dm n (ix2 r o) = Spec.dy f q r := by
  pointwise [k1_pay1]
  rw [hd, hv, hm, hn]
  rfl

end Cert.KernelIdeal.Block1

end
-- ==== Proof.Block2.lean ====
/-
  THE THIRD CALL'S BLOCK: the weight rows it unpacks, one 512-token product with them, and what it adds to the sum over the
  tokens, at an index.
-/
module

public import proofs.«01_k».proof.Proof.Block1
public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem
open Cert.KernelIdeal Cert.KernelIdeal.Gen

namespace Cert.KernelIdeal.Block2

/-- The block's 256 weight rows, taken from the low four bits. -/
theorem wLo_at (p : Vec Ideal S256x11008 .i8) (s : Vec Ideal S1x2x11008 .f32) (k : Fin 256) (o : Fin 11008) :
    k2_pay2 (F := Ideal) p s (ix2 k o) = Spec.nibLo (p (ix2 k o)) * s (ix3 0 ⟨k.val / 128, by omega⟩ o) := by
  pointwise [k2_pay2, k2_pay1]
  rw [Nibbles.low_bytes p bitcasts_S256x11008_w8_S64x11008_w32 bitcasts_S64x11008_w32_S256x11008_w8 rfl, Nibbles.low_val]

/-- The block's 256 weight rows, taken from the high four bits. -/
theorem wHi_at (p : Vec Ideal S256x11008 .i8) (s : Vec Ideal S1x2x11008 .f32) (k : Fin 256) (o : Fin 11008) :
    k2_pay3 (F := Ideal) p s (ix2 k o) = Spec.nibHi (p (ix2 k o)) * s (ix3 0 ⟨k.val / 128, by omega⟩ o) := by
  pointwise [k2_pay3, k2_pay1]
  rw [Nibbles.high_bytes p bitcasts_S256x11008_w8_S64x11008_w32 bitcasts_S64x11008_w32_S256x11008_w8 rfl, Nibbles.high_val]

/-- The sum over the tokens starts at zero. -/
theorem zero_at (c : Fin 256) : k2_pay4 (F := Ideal) (ix2 0 c) = (0 : EReal) := by
  pointwise [k2_pay4]

/-- The product of 512 token rows with the block's weight rows. -/
theorem dh_at (d : Vec Ideal S512x11008 .bf16) (w : Vec Ideal S256x11008 .bf16) (r : Fin 512) (c : Fin 256) :
    k2_pay5 (F := Ideal) d w (ix2 r c) = (∑ o, d (ix2 r o) * w (ix2 c o) : EReal) := by
  pointwise [k2_pay5]

/-- What 512 token rows add to the sum over the tokens. -/
theorem dg_at (a : FVec Ideal S1x256 .f32) (d : Vec Ideal S512x11008 .bf16) (w : Vec Ideal S256x11008 .bf16)
    (ri : Vec Ideal S512x128 .f32) (x : Vec Ideal S512x256 .bf16) (rv : Fin 512 → EReal) (hr : ∀ r j, ri (ix2 r j) = rv r)
    (c : Fin 256) :
    k2_pay6 (F := Ideal) a d w ri x (ix2 0 c)
      = (a (ix2 0 c) + ∑ r, (∑ o, d (ix2 r o) * w (ix2 c o)) * (x (ix2 r c) * rv r) : EReal) := by
  pointwise [k2_pay6]
  simp only [hr, dite_eq_ite, ite_self, dh_at]

end Cert.KernelIdeal.Block2

end
-- ==== Proof.RefBlock.lean ====
/-
  THE REFERENCE'S VALUES, at an index: each intermediate of the reference's one body, and each of its five results, is the
  function of `Spec` at that index.
-/
module

public import proofs.«01_k».proof.Proof.Block2
public import proofs.«01_k».proof.Proof.Gen.ReferenceIdeal.Skeleton
public import Idealize.ShloMosaic.Lib.Pointwise

@[expose] public section

set_option maxRecDepth 16384

noncomputable section

open Idealize.ShloMosaic Idealize.ShloMosaic.TcCoe Idealize.SL.Sem
open Cert.ReferenceIdeal Cert.ReferenceIdeal.Gen

namespace Cert.ReferenceIdeal.RefBlock

section Rows

variable (X : Fin 2048 → Fin 4096 → EReal) (G : Fin 4096 → EReal)
  (x : Vec Ideal S2048x4096 .bf16) (g : Vec Ideal S1x4096 .f32)

/-- The normalized activations. -/
theorem nrm_at (hx : ∀ r k, x (ix2 r k) = X r k) (r : Fin 2048) (k : Fin 4096) :
    k0_pay4 (F := Ideal) x (ix2 r k) = Spec.nrm X r k := by
  pointwise [k0_pay4]
  simp only [hx]
  rfl

/-- The gained activations. -/
theorem h_at (hx : ∀ r k, x (ix2 r k) = X r k) (hg : ∀ k, g (ix2 0 k) = G k) (r : Fin 2048) (k : Fin 4096) :
    k0_pay6 (F := Ideal) x g (ix2 r k) = Spec.gained X G r k := by
  pointwise [k0_pay6]
  rw [nrm_at X x hx, hg]
  rfl

/-- The reference model's product. -/
theorem yF_at (R : Fin 4096 → Fin 11008 → EReal) (w : Vec Ideal S4096x11008 .bf16) (hx : ∀ r k, x (ix2 r k) = X r k)
    (hg : ∀ k, g (ix2 0 k) = G k) (hw : ∀ k o, w (ix2 k o) = R k o) (r : Fin 2048) (o : Fin 11008) :
    k0_pay5 (F := Ideal) x g w (ix2 r o) = Spec.yF X G R o r := by
  pointwise [k0_pay5]
  simp only [nrm_at X x hx, hg, hw]
  rfl

/-- A vector cast to a column. -/
theorem col_read (v : FVec Ideal S2048 .f32) (r : Fin 2048) :
    shapeCast S2048x1 v shapeCasts_S2048_S2048x1 (ix2 r 0) = v (ix1 r) := by
  pointwise

/-- The magnitudes of the gained activations. -/
theorem mag_at (hx : ∀ r k, x (ix2 r k) = X r k) (hg : ∀ k, g (ix2 0 k) = G k) (r : Fin 2048) (k : Fin 4096) :
    absf (k0_pay6 (F := Ideal) x g) (ix2 r k) = FloatOps.absf (F := Ideal) (φ := .f32) (Spec.gained X G r k) := by
  pointwise
  rw [h_at X G x g hx hg]

/-- The largest magnitude of a row. -/
theorem amax_at (hx : ∀ r k, x (ix2 r k) = X r k) (hg : ∀ k, g (ix2 0 k) = G k) (r : Fin 2048) :
    multiReduction (F := Ideal) .maximumf [1] S2048 (absf (k0_pay6 (F := Ideal) x g)) 0xFF800000#32
      reduces_S2048x4096_S2048 (.inl rfl) rfl (ix1 r) = Spec.amax X G r := by
  refine (Spec.max_row _ _ _ _ r).trans ?_
  unfold Spec.amax
  simp only [mag_at X G x g hx hg]

/-- The steps, spelled out. -/
theorem scale_eq : k0_pay7 (F := Ideal) x g
    = select (cmpf .ogt (shapeCast S2048x1 (multiReduction .maximumf [1] S2048 (absf (k0_pay6 (F := Ideal) x g)) 0xFF800000#32
        reduces_S2048x4096_S2048 (.inl rfl) rfl) shapeCasts_S2048_S2048x1) (broadcast S2048x1 (Scalar.ofBits (F := Ideal) .f32 0x00000000#32)))
      (divf (shapeCast S2048x1 (multiReduction .maximumf [1] S2048 (absf (k0_pay6 (F := Ideal) x g)) 0xFF800000#32
        reduces_S2048x4096_S2048 (.inl rfl) rfl) shapeCasts_S2048_S2048x1) (broadcast S2048x1 (Scalar.ofBits (F := Ideal) .f32 0x42FE0000#32)))
      (broadcast S2048x1 (Scalar.ofBits (F := Ideal) .f32 0x3F800000#32)) := by
  unfold k0_pay7
  rfl

/-- The steps. -/
theorem scale_at (hx : ∀ r k, x (ix2 r k) = X r k) (hg : ∀ k, g (ix2 0 k) = G k) (r : Fin 2048) :
    k0_pay7 (F := Ideal) x g (ix2 r 0) = Spec.scale X G r := by
  rw [scale_eq]
  refine (Spec.step_read _ r).trans ?_
  rw [col_read, amax_at X G x g hx hg]
  rfl

/-- The steps, as a row. -/
theorem scaleRow_at (v : FVec Ideal S2048x1 .f32) (r : Fin 2048) : k0_pay3 (F := Ideal) v (ix2 0 r) = v (ix2 r 0) := by
  pointwise [k0_pay3]

/-- A quotient's codes, at an index. -/
theorem code_read (h : FVec Ideal S2048x4096 .f32) (s : FVec Ideal S2048x1 .f32) (r : Fin 2048) (k : Fin 4096) :
    fptosi 8 (minimumf (broadcast S2048x4096 (Scalar.ofBits (F := Ideal) .f32 0x42FE0000#32))
      (maximumf (broadcast S2048x4096 (Scalar.ofBits (F := Ideal) .f32 0xC2FE0000#32))
        (roundeven (divf h (broadcastTo S2048x4096 s broadcasts_S2048x1_S2048x4096))))) (ix2 r k)
      = Spec.codeOf (Ideal.div (h (ix2 r k)) (s (ix2 r 0))) := by
  pointwise
  rfl

/-- The codes, spelled out. -/
theorem code_eq : k0_pay9 (F := Ideal) (k0_pay8 x g) (Scalar.ofBits .f32 0xC2FE0000#32) (Scalar.ofBits .f32 0x42FE0000#32)
    = fptosi 8 (minimumf (broadcast S2048x4096 (Scalar.ofBits (F := Ideal) .f32 0x42FE0000#32))
      (maximumf (broadcast S2048x4096 (Scalar.ofBits (F := Ideal) .f32 0xC2FE0000#32))
        (roundeven (divf (k0_pay6 (F := Ideal) x g) (broadcastTo S2048x4096 (k0_pay7 (F := Ideal) x g) broadcasts_S2048x1_S2048x4096))))) := by
  unfold k0_pay9 k0_pay8
  rfl

/-- The codes. -/
theorem code_at (hx : ∀ r k, x (ix2 r k) = X r k) (hg : ∀ k, g (ix2 0 k) = G k) (r : Fin 2048) (k : Fin 4096) :
    k0_pay9 (F := Ideal) (k0_pay8 x g) (Scalar.ofBits .f32 0xC2FE0000#32) (Scalar.ofBits .f32 0x42FE0000#32) (ix2 r k)
      = Spec.code X G r k := by
  rw [code_eq]
  refine (code_read _ _ r k).trans ?_
  rw [h_at X G x g hx hg, scale_at X G x g hx hg]
  rfl

end Rows

section Weight

variable (P : Fin 2048 → Fin 11008 → BitVec 8) (S : Fin 32 → Fin 11008 → EReal)
  (p : Vec Ideal S2048x11008 .i8) (s : Vec Ideal S32x11008 .f32)

/-- The weight's lower half. -/
theorem wLo_at (hp : ∀ k o, p (ix2 k o) = P k o) (hs : ∀ k o, s (ix2 k o) = S k o) (k : Fin 2048) (o : Fin 11008) :
    k0_pay11 (F := Ideal) p s (ix2 k o) = Spec.wLo P S k o := by
  pointwise [k0_pay11, k0_pay10]
  rw [hp, hs]
  rfl

/-- The weight's upper half. -/
theorem wHi_at (hp : ∀ k o, p (ix2 k o) = P k o) (hs : ∀ k o, s (ix2 k o) = S k o) (k : Fin 2048) (o : Fin 11008) :
    k0_pay12 (F := Ideal) p s (ix2 k o) = Spec.wHi P S k o := by
  pointwise [k0_pay12, k0_pay10]
  rw [hp, hs]
  rfl

/-- The quantized product. -/
theorem yQ_at (X : Fin 2048 → Fin 4096 → EReal) (G : Fin 4096 → EReal) (x : Vec Ideal S2048x4096 .bf16)
    (g : Vec Ideal S1x4096 .f32) (hx : ∀ r k, x (ix2 r k) = X r k) (hg : ∀ k, g (ix2 0 k) = G k)
    (hp : ∀ k o, p (ix2 k o) = P k o) (hs : ∀ k o, s (ix2 k o) = S k o) (r : Fin 2048) (o : Fin 11008) :
    k0_pay13 (F := Ideal) p s (k0_pay7 x g) (k0_pay8 x g) (Scalar.ofBits .f32 0xC2FE0000#32)
      (Scalar.ofBits .f32 0x42FE0000#32) (ix2 r o) = Spec.yQ X G P S o r := by
  pointwise [k0_pay13]
  simp only [wLo_at P S p s hp hs, wHi_at P S p s hp hs, scale_at X G x g hx hg]
  have hc := code_at X G x g hx hg
  unfold Spec.yQ Spec.codeVal
  simp only [← hc]
  rfl

end Weight

section Stats

variable (v q : FVec Ideal S2048x11008 .f32) (o : Fin 11008) (f fq : Fin 2048 → EReal)

/-- The mean of a column of the reference product. -/
theorem meanF_at (hf : ∀ r, v (ix2 r o) = f r) : k0_pay14 (F := Ideal) v (ix2 0 o) = Spec.mean f := by
  pointwise [k0_pay14]
  simp only [hf]
  rfl

/-- The squared deviations of a column of the reference product. -/
theorem sqF_at (hf : ∀ r, v (ix2 r o) = f r) (r : Fin 2048) :
    k0_pay15 (F := Ideal) v (ix2 r o) = Spec.dev f r * Spec.dev f r := by
  pointwise [k0_pay15]
  rw [hf, meanF_at v o f hf]
  rfl

/-- The variance of a column of the reference product. -/
theorem varF_at (hf : ∀ r, v (ix2 r o) = f r) : k0_pay16 (F := Ideal) (k0_pay15 v) (ix2 0 o) = Spec.var f := by
  pointwise [k0_pay16]
  simp only [sqF_at v o f hf]
  rfl

/-- The mean of a column of the quantized product. -/
theorem meanQ_at (hq : ∀ r, q (ix2 r o) = fq r) : k0_pay17 (F := Ideal) q (ix2 0 o) = Spec.mean fq := by
  pointwise [k0_pay17]
  simp only [hq]
  rfl

/-- The deviations of a column of the quantized product. -/
theorem devQ_at (hq : ∀ r, q (ix2 r o) = fq r) (r : Fin 2048) : k0_pay18 (F := Ideal) q (ix2 r o) = Spec.dev fq r := by
  pointwise [k0_pay18]
  rw [hq, meanQ_at q o fq hq]
  rfl

/-- The variance of a column of the quantized product. -/
theorem varQ_at (hq : ∀ r, q (ix2 r o) = fq r) : k0_pay19 (F := Ideal) q (ix2 0 o) = Spec.var fq := by
  pointwise [k0_pay19]
  simp only [devQ_at q o fq hq]
  rfl

/-- The difference of the two means. -/
theorem dmu_at (hf : ∀ r, v (ix2 r o) = f r) (hq : ∀ r, q (ix2 r o) = fq r) :
    k0_pay20 (F := Ideal) q (k0_pay14 v) (ix2 0 o) = Spec.mean f - Spec.mean fq := by
  pointwise [k0_pay20]
  rw [meanF_at v o f hf, meanQ_at q o fq hq]

/-- The numerator of the KL. -/
theorem num_at (hf : ∀ r, v (ix2 r o) = f r) (hq : ∀ r, q (ix2 r o) = fq r) :
    k0_pay21 (F := Ideal) q (k0_pay14 v) (k0_pay15 v) (ix2 0 o) = Spec.num f fq := by
  pointwise [k0_pay21]
  rw [varF_at v o f hf, dmu_at v q o f fq hf hq]
  rfl

/-- The KL of a column. -/
theorem kl_at (hf : ∀ r, v (ix2 r o) = f r) (hq : ∀ r, q (ix2 r o) = fq r) :
    k0_pay22 (F := Ideal) q (k0_pay14 v) (k0_pay15 v) (ix2 0 o) = Spec.kl f fq := by
  pointwise [k0_pay22]
  rw [varF_at v o f hf, varQ_at q o fq hq, num_at v q o f fq hf hq]
  rfl

/-- The gradient in the mean. -/
theorem gMean_at (hf : ∀ r, v (ix2 r o) = f r) (hq : ∀ r, q (ix2 r o) = fq r) :
    k0_pay23 (F := Ideal) q (k0_pay14 v) (ix2 0 o) = Spec.gMean f fq := by
  pointwise [k0_pay23]
  rw [varQ_at q o fq hq, dmu_at v q o f fq hf hq]
  rfl

/-- Twice the deviations. -/
theorem twoDev_at (hq : ∀ r, q (ix2 r o) = fq r) (r : Fin 2048) :
    k0_pay24 (F := Ideal) q (ix2 r o) = Ideal.ofBits .f32 0x40000000#32 * Spec.dev fq r := by
  pointwise [k0_pay24]
  rw [devQ_at q o fq hq]

/-- The gradient in the variance, broadcast over the tokens. -/
theorem gVar_at (hf : ∀ r, v (ix2 r o) = f r) (hq : ∀ r, q (ix2 r o) = fq r) (r : Fin 2048) :
    k0_pay25 (F := Ideal) q (k0_pay14 v) (k0_pay15 v) (ix2 r o) = Spec.gVar f fq := by
  pointwise [k0_pay25]
  rw [varQ_at q o fq hq, num_at v q o f fq hf hq]
  rfl

end Stats

section Gradients

variable (X : Fin 2048 → Fin 4096 → EReal) (G0 G : Fin 4096 → EReal) (R : Fin 4096 → Fin 11008 → EReal)
  (P : Fin 2048 → Fin 11008 → BitVec 8) (S : Fin 32 → Fin 11008 → EReal)
  (v q : FVec Ideal S2048x11008 .f32) (lo hi : FVec Ideal S2048x11008 .bf16)

/-- The gradient in the hidden activation. -/
theorem dh_at (hf : ∀ r o, v (ix2 r o) = Spec.yF X G0 R o r) (hq : ∀ r o, q (ix2 r o) = Spec.yQ X G P S o r)
    (hlo : ∀ k o, lo (ix2 k o) = Spec.wLo P S k o) (hhi : ∀ k o, hi (ix2 k o) = Spec.wHi P S k o)
    (r : Fin 2048) (c : Fin 4096) :
    k0_pay1 (F := Ideal) lo hi (k0_pay23 q (k0_pay14 v)) (k0_pay24 q) (k0_pay25 q (k0_pay14 v) (k0_pay15 v)) (ix2 r c)
      = Spec.dh X G0 G R P S r c := by
  pointwise [k0_pay1]
  have e1 := fun o => gMean_at v q o _ _ (fun r => hf r o) (fun r => hq r o)
  have e2 := fun o => twoDev_at q o _ (fun r => hq r o)
  have e3 := fun o => gVar_at v q o _ _ (fun r => hf r o) (fun r => hq r o)
  simp only [e1, e2, e3, hlo, hhi]
  unfold Spec.dh Spec.w
  split_ifs <;> rfl

/-- The gradient in the gain. -/
theorem dg_at (x : Vec Ideal S2048x4096 .bf16) (hx : ∀ r k, x (ix2 r k) = X r k)
    (hf : ∀ r o, v (ix2 r o) = Spec.yF X G0 R o r) (hq : ∀ r o, q (ix2 r o) = Spec.yQ X G P S o r)
    (hlo : ∀ k o, lo (ix2 k o) = Spec.wLo P S k o) (hhi : ∀ k o, hi (ix2 k o) = Spec.wHi P S k o) (c : Fin 4096) :
    k0_pay2 (F := Ideal) (k0_pay4 x) lo hi (k0_pay23 q (k0_pay14 v)) (k0_pay24 q)
        (k0_pay25 q (k0_pay14 v) (k0_pay15 v)) (ix2 0 c) = Spec.dg X G0 G R P S c := by
  pointwise [k0_pay2]
  simp only [dh_at X G0 G R P S v q lo hi hf hq hlo hhi, nrm_at X x hx]
  rfl

end Gradients

end Cert.ReferenceIdeal.RefBlock

end
-- ==== Proof.Arr0.lean ====
/-
  WHAT THE FIRST CALL LEAVES: each of its five result arrays, in closed form. Grid point `t` holds the token rows
  `128 t … 128 t + 127`; each array is the mathematics of Spec.lean at the array's own coordinates.
-/
module

public import proofs.«01_k».proof.Proof.RefBlock
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.KernelIdeal.Arr0

variable (V : (c : Dev nD) → (b : Ref sig .tc) → Buf (Elt Ideal) ((c : Thread nD τ).loc b)) (c : Dev nD)

/-- Where every window's block sits, at every point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![0, t.val]
    ∧ win0_6.index t = ![t.val, 0] ∧ win0_7.index t = ![t.val, 0] ∧ t.val < 16 :=
  (by decide +kernel : ∀ t : Fin grid0.N, _)

/-- The token row of row `r` of point `t`'s block. -/
def row (t : Fin cfg0.N) (r : Fin 128) : Fin 2048 := ⟨t.val * 128 + r.val, by have := (idx t).2.2.2.2.2.2.2.2; omega⟩

/-- The activations the call finds. -/
def X (r : Fin 2048) (k : Fin 4096) : EReal := (V c main_v0 : FVec Ideal S2048x4096 .bf16) (ix2 r k)
/-- The reference model's gains. -/
def G0 (k : Fin 4096) : EReal := (V c main_v1 : FVec Ideal S1x4096 .f32) (ix2 0 k)
/-- The quantized model's gains. -/
def G (k : Fin 4096) : EReal := (V c main_v2 : FVec Ideal S1x4096 .f32) (ix2 0 k)

theorem x_at (t : Fin cfg0.N) (r : Fin 128) (k : Fin 4096) :
    (iblk0 V c 0 t : Vec Ideal S128x4096 .bf16) (ix2 r k) = X V c (row t r) k := by
  unfold X row
  blk_ext [iblk0, idx t]

theorem g0_at (t : Fin cfg0.N) (k : Fin 4096) : (iblk0 V c 1 t : Vec Ideal S1x4096 .f32) (ix2 0 k) = G0 V c k := by
  unfold G0
  blk_ext [iblk0, idx t]

theorem g_at (t : Fin cfg0.N) (k : Fin 4096) : (iblk0 V c 2 t : Vec Ideal S1x4096 .f32) (ix2 0 k) = G V c k := by
  unfold G
  blk_ext [iblk0, idx t]

/-! Where an index of a block sits in its array. -/

theorem emb3 (t : Fin cfg0.N) (y0 : Fin 128) (y1 : Fin 4096) :
    (((cfg0.win 3).blk t).view.emb (ix2 y0 y1) : S2048x4096.Idx) = ix2 (row t y0) y1 := by
  unfold row
  blk_ext [idx t]

theorem emb4 (t : Fin cfg0.N) (y0 : Fin 128) (y1 : Fin 4096) :
    (((cfg0.win 4).blk t).view.emb (ix2 y0 y1) : S2048x4096.Idx) = ix2 (row t y0) y1 := by
  unfold row
  blk_ext [idx t]

theorem emb5 (t : Fin cfg0.N) (y0 : Fin 1) (y1 : Fin 128) :
    (((cfg0.win 5).blk t).view.emb (ix2 y0 y1) : S1x2048.Idx) = ix2 0 (row t y1) := by
  unfold row
  blk_ext [idx t]

theorem emb6 (t : Fin cfg0.N) (y0 : Fin 128) (y1 : Fin 128) :
    (((cfg0.win 6).blk t).view.emb (ix2 y0 y1) : S2048x128.Idx) = ix2 (row t y0) y1 := by
  unfold row
  blk_ext [idx t]

theorem emb7 (t : Fin cfg0.N) (y0 : Fin 128) (y1 : Fin 128) :
    (((cfg0.win 7).blk t).view.emb (ix2 y0 y1) : S2048x128.Idx) = ix2 (row t y0) y1 := by
  unfold row
  blk_ext [idx t]

/-- The reference model's activations. -/
theorem hf_arr : (dat0 V c).arrAt 3 cfg0.N
    = (fun j => Spec.gained (X V c) (G0 V c) (j 0) (j 1) : FVec Ideal S2048x4096 .bf16) := by
  refine (dat0 V c).arrAt_eq_of_covers 3 _ (by decide +kernel) fun t _ y => ?_
  blk_simp
  rw [after0_3]; frame_out
  idx_vars y
  refine (Block0.hf_at (X V c) (G0 V c) (row t) _ _ (x_at V c t) (g0_at V c t) _ _).trans ?_
  exact (congrArg (fun j : S2048x4096.Idx => Spec.gained (X V c) (G0 V c) (j 0) (j 1)) (emb3 t y0 y1)).symm

/-- The quantized activations. -/
theorem codes_arr : (dat0 V c).arrAt 4 cfg0.N
    = (fun j => Spec.code (X V c) (G V c) (j 0) (j 1) : IVec S2048x4096 8) := by
  refine (dat0 V c).arrAt_eq_of_covers 4 _ (by decide +kernel) fun t _ y => ?_
  blk_simp
  rw [after0_4]; frame_out
  idx_vars y
  refine (Block0.code_at (X V c) (G V c) (row t) _ _ (x_at V c t) (g_at V c t) _ _).trans ?_
  exact (congrArg (fun j : S2048x4096.Idx => Spec.code (X V c) (G V c) (j 0) (j 1)) (emb4 t y0 y1)).symm

/-- The reciprocal root mean squares, along the lanes. -/
theorem rrow_arr : (dat0 V c).arrAt 7 cfg0.N
    = (fun j => Spec.rinv (X V c) (j 0) : FVec Ideal S2048x128 .f32) := by
  refine (dat0 V c).arrAt_eq_of_covers 7 _ (by decide +kernel) fun t _ y => ?_
  blk_simp
  rw [after0_7]; frame_out
  idx_vars y
  refine (Block0.rrow_at _ _ _).trans ?_
  refine (Block0.rinv_at (X V c) (row t) _ (x_at V c t) _).trans ?_
  exact (congrArg (fun j : S2048x128.Idx => Spec.rinv (X V c) (j 0)) (emb7 t y0 y1)).symm

/-- The steps of a block. -/
theorem steps_eq (x0 : Vec Ideal S128x4096 .bf16) (x1 : Vec Ideal S1x4096 .f32) (x2 : Vec Ideal S1x4096 .f32) :
    k0_pay11 x0 x1 x2 = k0_pay9 x0 x2 := by
  unfold k0_pay11
  rw [View.ld_unit_zero (by funext a; fin_cases a <;> rfl) _ x0, View.ld_unit_zero (by funext a; fin_cases a <;> rfl) _ x2]

/-- A block's steps, as a row. -/
theorem scales_at (t : Fin cfg0.N) (r : Fin 128) : out0_5 (iblk0 V c 0 t) (iblk0 V c 1 t) (iblk0 V c 2 t) (ix2 0 r)
    = Spec.scale (X V c) (G V c) (row t r) := by
  frame_out
  rw [steps_eq]
  exact (Block0.diag_at _ r).trans (Block0.scale_at (X V c) (G V c) (row t) _ _ (x_at V c t) (g_at V c t) r)

/-- A block's steps, along the lanes. -/
theorem srow_at (t : Fin cfg0.N) (r l : Fin 128) : out0_6 (iblk0 V c 0 t) (iblk0 V c 1 t) (iblk0 V c 2 t) (ix2 r l)
    = Spec.scale (X V c) (G V c) (row t r) := by
  frame_out
  rw [steps_eq]
  exact (Block0.srow_at _ r l).trans (Block0.scale_at (X V c) (G V c) (row t) _ _ (x_at V c t) (g_at V c t) r)

/-- The quantization steps, as a row. -/
theorem scales_arr : (dat0 V c).arrAt 5 cfg0.N
    = (fun j => Spec.scale (X V c) (G V c) (j 1) : FVec Ideal S1x2048 .f32) := by
  refine (dat0 V c).arrAt_eq_of_covers 5 _ (by decide +kernel) fun t _ y => ?_
  blk_simp
  rw [after0_5]
  idx_vars y
  obtain rfl : y0 = 0 := Subsingleton.elim _ _
  refine (scales_at V c t y1).trans ?_
  exact (congrArg (fun j : S1x2048.Idx => Spec.scale (X V c) (G V c) (j 1)) (emb5 t 0 y1)).symm

/-- The quantization steps, along the lanes. -/
theorem srow_arr : (dat0 V c).arrAt 6 cfg0.N
    = (fun j => Spec.scale (X V c) (G V c) (j 0) : FVec Ideal S2048x128 .f32) := by
  refine (dat0 V c).arrAt_eq_of_covers 6 _ (by decide +kernel) fun t _ y => ?_
  blk_simp
  rw [after0_6]
  idx_vars y
  refine (srow_at V c t y0 y1).trans ?_
  exact (congrArg (fun j : S2048x128.Idx => Spec.scale (X V c) (G V c) (j 0)) (emb6 t y0 y1)).symm

end Cert.KernelIdeal.Arr0

end
-- ==== Proof.Arr1.lean ====
/-
  WHAT THE SECOND CALL LEAVES: the gradient in the quantized product and the KL row, in closed form. Grid point `t` holds
  the output columns `256 t … 256 t + 255` with every token, so each column's statistics are computed whole in one point.
-/
module

public import proofs.«01_k».proof.Proof.Arr0

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.KernelIdeal.Arr1

section Block

variable (x0 : Vec Ideal S2048x4096 .bf16) (x1 : Vec Ideal S2048x4096 .i8) (x2 : Vec Ideal S2048x128 .f32)
  (x3 : Vec Ideal S4096x256 .bf16) (x4 : Vec Ideal S2048x256 .i8) (x5 : Vec Ideal S32x256 .f32)

/-! The parts of a block the body loads. -/

theorem hiScale (a : Fin 16) (o : Fin 256) : View.ld x5 r1_4 (ix2 a o) = x5 (ix2 ⟨16 + a.val, by omega⟩ o) := by
  refine View.ld_unit_apply_of x5 _ _ _ _ _ fun d => ?_
  fin_cases d <;> simp [ix2, Spec.colLo, Spec.colHi]

theorem loScale (a : Fin 16) (o : Fin 256) : View.ld x5 r1_3 (ix2 a o) = x5 (ix2 ⟨a.val, by omega⟩ o) := by
  refine View.ld_unit_apply_of x5 _ _ _ _ _ fun d => ?_
  fin_cases d <;> simp [ix2, Spec.colLo, Spec.colHi]

theorem loCode (r x : Fin 2048) : View.ld x1 r1_5 (ix2 r x) = x1 (ix2 r (Spec.colLo x)) := by
  refine View.ld_unit_apply_of x1 _ _ _ _ _ fun d => ?_
  fin_cases d <;> simp [ix2, Spec.colLo, Spec.colHi]

theorem hiCode (r x : Fin 2048) : View.ld x1 r1_6 (ix2 r x) = x1 (ix2 r (Spec.colHi x)) := by
  refine View.ld_unit_apply_of x1 _ _ _ _ _ fun d => ?_
  fin_cases d <;> simp [ix2, Spec.colLo, Spec.colHi]

/-- The reference product's column. -/
theorem f_at (r : Fin 2048) (o : Fin 256) :
    k1_pay15 x0 x1 x2 x3 x4 x5 (ix2 r o) = (∑ k, x0 (ix2 r k) * x3 (ix2 k o) : EReal) := by
  unfold k1_pay15
  rw [View.ld_unit_zero (by funext a; fin_cases a <;> rfl) _ x0, View.ld_unit_zero (by funext a; fin_cases a <;> rfl) _ x3]
  exact Block1.yF_at x0 x3 r o

/-- The weight's upper half, the block's columns. -/
theorem hi_at (k : Fin 2048) (o : Fin 256) :
    k1_pay16 x0 x1 x2 x3 x4 x5 (ix2 k o) = Spec.nibHi (x4 (ix2 k o)) * x5 (ix2 (Spec.rowHi k) o) := by
  unfold k1_pay16
  rw [View.ld_unit_zero (by funext a; fin_cases a <;> rfl) _ x4]
  refine (Block1.wHi_at x4 _ k o).trans ?_
  rw [hiScale]
  rfl

/-- The lower half's part of the quantized product. -/
theorem lo_at (r : Fin 2048) (o : Fin 256) :
    k1_pay17 x0 x1 x2 x3 x4 x5 (ix2 r o)
      = ∑ x, Spec.codeVal (x1 (ix2 r (Spec.colLo x))) * (Spec.nibLo (x4 (ix2 x o)) * x5 (ix2 (Spec.rowLo x) o)) := by
  unfold k1_pay17
  rw [View.ld_unit_zero (by funext a; fin_cases a <;> rfl) _ x4]
  refine (Block1.lo_at x4 _ _ r o).trans ?_
  refine Finset.sum_congr rfl fun x _ => ?_
  rw [loCode, loScale]
  rfl

/-- The quantized product's column. -/
theorem q_at (sc : Fin 2048 → EReal) (hs : ∀ r j, x2 (ix2 r j) = sc r) (r : Fin 2048) (o : Fin 256) :
    k1_pay6 (k1_pay16 x0 x1 x2 x3 x4 x5) (k1_pay17 x0 x1 x2 x3 x4 x5) (View.ld x1 r1_6) (View.ld x2 r1_7) (ix2 r o)
      = (∑ x, Spec.codeVal (x1 (ix2 r (Spec.colLo x))) * (Spec.nibLo (x4 (ix2 x o)) * x5 (ix2 (Spec.rowLo x) o))
        + ∑ x, Spec.codeVal (x1 (ix2 r (Spec.colHi x))) * (Spec.nibHi (x4 (ix2 x o)) * x5 (ix2 (Spec.rowHi x) o))) * sc r := by
  rw [View.ld_unit_zero (by funext a; fin_cases a <;> rfl) _ x2]
  refine (Block1.yQ_at _ _ _ x2 sc hs r o).trans ?_
  rw [lo_at]
  refine congrArg (fun e : EReal => (_ + e) * sc r) (Finset.sum_congr rfl fun x _ => ?_)
  rw [hiCode, hi_at]

variable (f q : Fin 2048 → EReal) (o : Fin 256)
  (hf : ∀ r, k1_pay15 x0 x1 x2 x3 x4 x5 (ix2 r o) = f r)
  (hq : ∀ r, k1_pay6 (k1_pay16 x0 x1 x2 x3 x4 x5) (k1_pay17 x0 x1 x2 x3 x4 x5) (View.ld x1 r1_6) (View.ld x2 r1_7) (ix2 r o)
    = q r)

include hf hq in
/-- The block of gradients. -/
theorem out6_at (r : Fin 2048) : out1_6 x0 x1 x2 x3 x4 x5 (ix2 r o) = Spec.dy f q r := by
  unfold out1_6
  rw [View.canon_unit_zero (by funext a; fin_cases a <;> rfl)]
  exact Block1.dy_at _ _ _ _ f q r o (Block1.devQ_at _ _ _ _ o q hq r) (Block1.varQ_at _ _ _ _ o q hq)
    (Block1.dmu_at _ _ _ _ _ o f q hf hq) (Block1.num_at _ _ _ _ _ o f q hf hq)

include hf hq in
/-- The block of KL terms. -/
theorem out7_at : out1_7 x0 x1 x2 x3 x4 x5 (ix2 0 o) = Spec.kl f q := by
  unfold out1_7
  rw [View.canon_unit_zero (by funext a; fin_cases a <;> rfl)]
  exact Block1.kl_at _ _ _ _ _ o f q hf hq

end Block

variable (V : (c : Dev nD) → (b : Ref sig .tc) → Buf (Elt Ideal) ((c : Thread nD τ).loc b)) (c : Dev nD)

/-- Where every window's block sits, at every point. -/
theorem idx : ∀ t : Fin cfg1.N, win1_0.index t = ![0, 0] ∧ win1_1.index t = ![0, 0] ∧ win1_2.index t = ![0, 0]
    ∧ win1_3.index t = ![0, t.val] ∧ win1_4.index t = ![0, t.val] ∧ win1_5.index t = ![0, t.val]
    ∧ win1_6.index t = ![0, t.val] ∧ win1_7.index t = ![0, t.val] ∧ t.val < 43 :=
  (by decide +kernel : ∀ t : Fin grid1.N, _)

/-- The output column of column `o` of point `t`'s block. -/
def col (t : Fin cfg1.N) (o : Fin 256) : Fin 11008 := ⟨t.val * 256 + o.val, by have := (idx t).2.2.2.2.2.2.2.2; omega⟩

/-! The input blocks, read off their arrays. -/

theorem b0_at (t : Fin cfg1.N) (r : Fin 2048) (k : Fin 4096) :
    (iblk1 V c 0 t : Vec Ideal S2048x4096 .bf16) (ix2 r k) = (V c main_v3_0 : FVec Ideal S2048x4096 .bf16) (ix2 r k) := by
  blk_ext [iblk1, idx t]

theorem b1_at (t : Fin cfg1.N) (r : Fin 2048) (k : Fin 4096) :
    (iblk1 V c 1 t : Vec Ideal S2048x4096 .i8) (ix2 r k) = (V c main_v3_1 : IVec S2048x4096 8) (ix2 r k) := by
  blk_ext [iblk1, idx t]

theorem b2_at (t : Fin cfg1.N) (r : Fin 2048) (k : Fin 128) :
    (iblk1 V c 2 t : Vec Ideal S2048x128 .f32) (ix2 r k) = (V c main_v3_3 : FVec Ideal S2048x128 .f32) (ix2 r k) := by
  blk_ext [iblk1, idx t]

theorem b3_at (t : Fin cfg1.N) (r : Fin 4096) (o : Fin 256) :
    (iblk1 V c 3 t : Vec Ideal S4096x256 .bf16) (ix2 r o) = (V c main_arg3 : FVec Ideal S4096x11008 .bf16) (ix2 r (col t o)) := by
  unfold col
  blk_ext [iblk1, idx t]

theorem b4_at (t : Fin cfg1.N) (r : Fin 2048) (o : Fin 256) :
    (iblk1 V c 4 t : Vec Ideal S2048x256 .i8) (ix2 r o) = (V c main_arg4 : IVec S2048x11008 8) (ix2 r (col t o)) := by
  unfold col
  blk_ext [iblk1, idx t]

theorem b5_at (t : Fin cfg1.N) (r : Fin 32) (o : Fin 256) :
    (iblk1 V c 5 t : Vec Ideal S32x256 .f32) (ix2 r o) = (V c main_arg5 : FVec Ideal S32x11008 .f32) (ix2 r (col t o)) := by
  unfold col
  blk_ext [iblk1, idx t]

theorem emb6 (t : Fin cfg1.N) (y0 : Fin 2048) (y1 : Fin 256) :
    (((cfg1.win 6).blk t).view.emb (ix2 y0 y1) : S2048x11008.Idx) = ix2 y0 (col t y1) := by
  unfold col
  blk_ext [idx t]

theorem emb7 (t : Fin cfg1.N) (y0 : Fin 1) (y1 : Fin 256) :
    (((cfg1.win 7).blk t).view.emb (ix2 y0 y1) : S1x11008.Idx) = ix2 0 (col t y1) := by
  unfold col
  blk_ext [idx t]

variable (X : Fin 2048 → Fin 4096 → EReal) (G0 G : Fin 4096 → EReal) (R : Fin 4096 → Fin 11008 → EReal)
  (P : Fin 2048 → Fin 11008 → BitVec 8) (S : Fin 32 → Fin 11008 → EReal)
  (h0 : ∀ r k, (V c main_v3_0 : FVec Ideal S2048x4096 .bf16) (ix2 r k) = Spec.gained X G0 r k)
  (h1 : ∀ r k, (V c main_v3_1 : IVec S2048x4096 8) (ix2 r k) = Spec.code X G r k)
  (h2 : ∀ r l, (V c main_v3_3 : FVec Ideal S2048x128 .f32) (ix2 r l) = Spec.scale X G r)
  (h3 : ∀ k o, (V c main_arg3 : FVec Ideal S4096x11008 .bf16) (ix2 k o) = R k o)
  (h4 : ∀ k o, (V c main_arg4 : IVec S2048x11008 8) (ix2 k o) = P k o)
  (h5 : ∀ k o, (V c main_arg5 : FVec Ideal S32x11008 .f32) (ix2 k o) = S k o)

include h0 h3 in
theorem f_point (t : Fin cfg1.N) (o : Fin 256) (r : Fin 2048) :
    k1_pay15 (iblk1 V c 0 t) (iblk1 V c 1 t) (iblk1 V c 2 t) (iblk1 V c 3 t) (iblk1 V c 4 t) (iblk1 V c 5 t) (ix2 r o)
      = Spec.yF X G0 R (col t o) r := by
  refine (f_at _ _ _ _ _ _ r o).trans ?_
  simp only [b0_at V c t, b3_at V c t, h0, h3]
  rfl

include h1 h2 h4 h5 in
theorem q_point (t : Fin cfg1.N) (o : Fin 256) (r : Fin 2048) :
    k1_pay6 (k1_pay16 (iblk1 V c 0 t) (iblk1 V c 1 t) (iblk1 V c 2 t) (iblk1 V c 3 t) (iblk1 V c 4 t) (iblk1 V c 5 t))
        (k1_pay17 (iblk1 V c 0 t) (iblk1 V c 1 t) (iblk1 V c 2 t) (iblk1 V c 3 t) (iblk1 V c 4 t) (iblk1 V c 5 t))
        (View.ld (iblk1 V c 1 t) r1_6) (View.ld (iblk1 V c 2 t) r1_7) (ix2 r o)
      = Spec.yQ X G P S (col t o) r := by
  refine (q_at _ _ _ _ _ _ (Spec.scale X G) (fun r j => (b2_at V c t r j).trans (h2 r j)) r o).trans ?_
  simp only [b1_at V c t, b4_at V c t, b5_at V c t, h1, h4, h5]
  rfl

include h0 h1 h2 h3 h4 h5 in
/-- The gradient in the quantized product. -/
theorem dy_arr : (dat1 V c).arrAt 6 cfg1.N
    = (fun j => Spec.dyAt X G0 G R P S (j 0) (j 1) : FVec Ideal S2048x11008 .bf16) := by
  refine (dat1 V c).arrAt_eq_of_covers 6 _ (by decide +kernel) fun t _ y => ?_
  blk_simp
  rw [after1_6]
  idx_vars y
  refine (out6_at _ _ _ _ _ _ _ _ y1 (f_point V c X G0 R h0 h3 t y1) (q_point V c X G P S h1 h2 h4 h5 t y1) y0).trans ?_
  exact (congrArg (fun j : S2048x11008.Idx => Spec.dyAt X G0 G R P S (j 0) (j 1)) (emb6 t y0 y1)).symm

include h0 h1 h2 h3 h4 h5 in
/-- The KL row. -/
theorem kl_arr : (dat1 V c).arrAt 7 cfg1.N
    = (fun j => Spec.klAt X G0 G R P S (j 1) : FVec Ideal S1x11008 .f32) := by
  refine (dat1 V c).arrAt_eq_of_covers 7 _ (by decide +kernel) fun t _ y => ?_
  blk_simp
  rw [after1_7]
  idx_vars y
  obtain rfl : y0 = 0 := Subsingleton.elim _ _
  refine (out7_at _ _ _ _ _ _ _ _ y1 (f_point V c X G0 R h0 h3 t y1) (q_point V c X G P S h1 h2 h4 h5 t y1)).trans ?_
  exact (congrArg (fun j : S1x11008.Idx => Spec.klAt X G0 G R P S (j 1)) (emb7 t 0 y1)).symm

end Cert.KernelIdeal.Arr1

end
-- ==== Proof.Trip.lean ====
/-
  THE THIRD CALL'S LOOP: four trips, each taking 512 token rows through the product with the block's weight rows. Trip `k`
  stores rows `512 k … 512 k + 511` of the gradient and adds their part to the sum over the tokens.
-/
module

public import proofs.«01_k».proof.Proof.Arr1
public import Idealize.ShloMosaic.Lib.WholeRead
public import Idealize.ShloMosaic.Lib.VecWindow

@[expose] public section

set_option maxRecDepth 16384

noncomputable section

open Idealize.ShloMosaic Idealize.ShloMosaic.TcCoe Idealize.SL.Sem
open Cert.KernelIdeal Cert.KernelIdeal.Gen

namespace Cert.KernelIdeal.Trip

/-- The gradient at a token and one of the block's columns. -/
def prod (x0 : Vec Ideal S2048x11008 .bf16) (w : Vec Ideal S256x11008 .bf16) (r : Fin 2048) (c : Fin 256) : EReal :=
  ∑ o, x0 (ix2 r o) * w (ix2 c o)

/-- What one token adds to the sum over the tokens. -/
def term (x0 : Vec Ideal S2048x11008 .bf16) (w : Vec Ideal S256x11008 .bf16) (x3 : Vec Ideal S2048x256 .bf16)
    (x4 : Vec Ideal S2048x128 .f32) (c : Fin 256) (r : Fin 2048) : EReal :=
  prod x0 w r c * (x3 (ix2 r c) * x4 (ix2 r 0))

/-- The same over all numbers, zero past the last token. -/
def termN (x0 : Vec Ideal S2048x11008 .bf16) (w : Vec Ideal S256x11008 .bf16) (x3 : Vec Ideal S2048x256 .bf16)
    (x4 : Vec Ideal S2048x128 .f32) (c : Fin 256) (n : ℕ) : EReal :=
  if h : n < 2048 then term x0 w x3 x4 c ⟨n, h⟩ else 0

/-- Where trip `k`'s rows begin. -/
theorem offs : ∀ k : Fin k2_t1_loop.trips, k2_off1 k = ![512 * k.val, 0] ∧ k2_off2 k = ![512 * k.val, 0]
    ∧ k2_off3 k = ![512 * k.val, 0] ∧ k.val < 4 := by decide +kernel

/-- The token of row `r` of trip `k`. -/
def row (k : Fin k2_t1_loop.trips) (r : Fin 512) : Fin 2048 := ⟨512 * k.val + r.val, by have := (offs k).2.2.2; omega⟩

variable (c : Dev nD) (i : grid2.Coords) (arg2 : Memref sig .tc .vmem S2048x11008 .bf16) (harg2 : arg2.IsWhole) (arg3 : Memref sig .tc .vmem S256x11008 .i8) (harg3 : arg3.IsWhole) (arg4 : Memref sig .tc .vmem S1x2x11008 .f32) (harg4 : arg4.IsWhole) (arg5 : Memref sig .tc .vmem S2048x256 .bf16) (harg5 : arg5.IsWhole) (arg6 : Memref sig .tc .vmem S2048x128 .f32) (harg6 : arg6.IsWhole) (arg7 : Memref sig .tc .vmem S2048x256 .f32) (harg7 : arg7.IsWhole) (arg8 : Memref sig .tc .vmem S1x256 .f32) (harg8 : arg8.IsWhole) (arg9 : Memref sig .tc .vmem S256x11008 .bf16) (harg9 : arg9.IsWhole)
  (x0 : Vec Ideal S2048x11008 .bf16) (x3 : Vec Ideal S2048x256 .bf16) (x4 : Vec Ideal S2048x128 .f32)

/-! The rows a trip loads. -/

theorem ld0 (k : Fin k2_t1_loop.trips) (r : Fin 512) (o : Fin 11008) :
    (View.readAt (Elt Ideal) arg2.view (Rect.unit (s := S2048x11008) (k2_off1 k) ![512, 11008] (k2_off1_inb k)).toLoadRect (harg2.unread x0) : Vec Ideal S512x11008 .bf16) (ix2 r o)
      = x0 (ix2 (row k r) o) := by
  refine (harg2.readAt_unread x0 _ _).trans (View.ld_unit_apply_of x0 _ _ _ _ _ fun d => ?_)
  fin_cases d <;> simp [ix2, row, (offs k).1]

theorem ld3 (k : Fin k2_t1_loop.trips) (r : Fin 512) (o : Fin 256) :
    (View.readAt (Elt Ideal) arg5.view (Rect.unit (s := S2048x256) (k2_off2 k) ![512, 256] (k2_off2_inb k)).toLoadRect (harg5.unread x3) : Vec Ideal S512x256 .bf16) (ix2 r o)
      = x3 (ix2 (row k r) o) := by
  refine (harg5.readAt_unread x3 _ _).trans (View.ld_unit_apply_of x3 _ _ _ _ _ fun d => ?_)
  fin_cases d <;> simp [ix2, row, (offs k).2.1]

theorem ld4 (k : Fin k2_t1_loop.trips) (r : Fin 512) (o : Fin 128) :
    (View.readAt (Elt Ideal) arg6.view (Rect.unit (s := S2048x128) (k2_off3 k) ![512, 128] (k2_off3_inb k)).toLoadRect (harg6.unread x4) : Vec Ideal S512x128 .f32) (ix2 r o)
      = x4 (ix2 (row k r) o) := by
  refine (harg6.readAt_unread x4 _ _).trans (View.ld_unit_apply_of x4 _ _ _ _ _ fun d => ?_)
  fin_cases d <;> simp [ix2, row, (offs k).2.2.1]

variable (X9 : BufTy.Contents (Elt Ideal) arg9.view.ty) (w : Vec Ideal S256x11008 .bf16)
  (hw : arg9.view.read (Elt Ideal) X9 = w)

include hw in
theorem ld9 : View.readAt (Elt Ideal) arg9.view (Rect.unit ![0, 0] ![256, 11008] inb_S256x11008_S256x11008_0_0).toLoadRect X9 = w := by
  rw [← hw]
  exact View.readAt_full _ _ _

include hw in
/-- What trip `k` yields, the state's sum being `a`. -/
theorem yield_at (hx4 : ∀ r j, x4 (ix2 r j) = x4 (ix2 r 0)) (k : Fin k2_t1_loop.trips) (a : FVec Ideal S1x256 .f32) (o : Fin 256) :
    tripR_k2_t1 (F := Ideal) Variants.none c none i arg2 harg2 arg3 harg3 arg4 harg4 arg5 harg5 arg6 harg6 arg7 harg7 arg8 harg8 arg9 harg9 (harg2.unread x0) (harg5.unread x3) (harg6.unread x4) X9 k a (ix2 0 o)
      = (a (ix2 0 o) + ∑ r, term x0 w x3 x4 o (row k r) : EReal) := by
  unfold tripR_k2_t1 trip_k2_t1
  dsimp only
  rw [ld9 arg9 X9 w hw]
  refine (Block2.dg_at _ _ _ _ _ (fun r => x4 (ix2 (row k r) 0)) (fun r j => ?_) o).trans ?_
  · exact (ld4 arg6 harg6 x4 k r j).trans (hx4 _ _)
  · refine congrArg (fun e : EReal => (a (ix2 0 o) : EReal) + e) (Finset.sum_congr rfl fun r _ => ?_)
    unfold term prod
    rw [ld3 arg5 harg5 x3 k r o]
    refine congrArg (fun e : EReal => e * _) (Finset.sum_congr rfl fun j _ => ?_)
    rw [ld0 arg2 harg2 x0 k r j]

include hw in
/-- What trip `k` stores. -/
theorem piece_at (k : Fin k2_t1_loop.trips) (a : FVec Ideal S1x256 .f32) (y0 : Fin 2048) (y1 : Fin 256) :
    View.AllAt (tripL_k2_t1 (F := Ideal) Variants.none c none i arg2 harg2 arg3 harg3 arg4 harg4 arg5 harg5 arg6 harg6 arg7 harg7 arg8 harg8 arg9 harg9 (harg2.unread x0) (harg5.unread x3) (harg6.unread x4) X9 k a)
      (ix2 y0 y1) (prod x0 w y0 y1) := by
  unfold tripL_k2_t1 trip_k2_t1
  dsimp only
  rw [ld9 arg9 X9 w hw]
  refine View.allAt_cons_unit _ _ _ _ _ (fun z hz => ?_) (View.allAt_nil _ _)
  idx_vars z
  have h0 := hz 0
  have h1 := hz 1
  rw [(offs k).2.1] at h0 h1
  obtain rfl : y0 = row k z0 := Fin.ext (by simpa [ix2, row] using h0)
  obtain rfl : y1 = z1 := Fin.ext (by simpa [ix2, row] using h1)
  refine (Block2.dh_at _ _ _ _).trans ?_
  unfold prod
  refine Finset.sum_congr rfl fun j _ => ?_
  rw [ld0 arg2 harg2 x0 k _ j]

include hw in
/-- The sum over the tokens after `n` trips. -/
theorem sum_at (hx4 : ∀ r j, x4 (ix2 r j) = x4 (ix2 r 0)) (o : Fin 256) : ∀ n : ℕ, n ≤ 4 →
    (st_k2_t1 (F := Ideal) Variants.none c none i arg2 harg2 arg3 harg3 arg4 harg4 arg5 harg5 arg6 harg6 arg7 harg7 arg8 harg8 arg9 harg9 (harg2.unread x0) (harg5.unread x3) (harg6.unread x4) X9 k2_pay4 n).1 (ix2 0 o)
      = (∑ t ∈ Finset.range (512 * n), termN x0 w x3 x4 o t : EReal)
  | 0, _ => (Block2.zero_at o).trans (by simp)
  | n + 1, hn => by
    have hk : n < k2_t1_loop.trips := lt_of_lt_of_eq (by omega : n < 4) (by decide +kernel)
    refine (congrArg (fun s => s.1 (ix2 0 o)) (st_k2_t1_succ (F := Ideal) Variants.none c none i arg2 harg2 arg3 harg3 arg4 harg4 arg5 harg5 arg6 harg6 arg7 harg7 arg8 harg8 arg9 harg9 (harg2.unread x0) (harg5.unread x3) (harg6.unread x4) X9 k2_pay4 ⟨n, hk⟩)).trans ?_
    refine (yield_at c i arg2 harg2 arg3 harg3 arg4 harg4 arg5 harg5 arg6 harg6 arg7 harg7 arg8 harg8 arg9 harg9 x0 x3 x4 X9 w hw hx4 ⟨n, hk⟩ _ o).trans ?_
    rw [sum_at hx4 o n (by omega), Nat.mul_succ, Finset.sum_range_add, Finset.sum_range (n := 512)]
    refine congrArg (fun e : EReal => _ + e) (Finset.sum_congr rfl fun r _ => ?_)
    unfold termN
    rw [dif_pos (by omega : 512 * n + r.val < 2048)]
    rfl

include hw in
/-- The rows stored in `n` trips. -/
theorem pieces_at (y0 : Fin 2048) (y1 : Fin 256) : ∀ n : ℕ, n ≤ 4 →
    View.AllAt (st_k2_t1 (F := Ideal) Variants.none c none i arg2 harg2 arg3 harg3 arg4 harg4 arg5 harg5 arg6 harg6 arg7 harg7 arg8 harg8 arg9 harg9 (harg2.unread x0) (harg5.unread x3) (harg6.unread x4) X9 k2_pay4 n).2
      (ix2 y0 y1) (prod x0 w y0 y1)
  | 0, _ => View.allAt_nil _ _
  | n + 1, hn => by
    have hk : n < k2_t1_loop.trips := lt_of_lt_of_eq (by omega : n < 4) (by decide +kernel)
    rw [show n + 1 = (⟨n, hk⟩ : Fin k2_t1_loop.trips).val + 1 from rfl, st_k2_t1_succ]
    intro p hp
    rcases List.mem_append.mp hp with h | h
    · exact piece_at c i arg2 harg2 arg3 harg3 arg4 harg4 arg5 harg5 arg6 harg6 arg7 harg7 arg8 harg8 arg9 harg9 x0 x3 x4 X9 w hw ⟨n, hk⟩ _ y0 y1 p h
    · exact pieces_at y0 y1 n (by omega) p h

/-- The four trips' tokens are all tokens. -/
theorem all_tokens (o : Fin 256) :
    (∑ t ∈ Finset.range (512 * 4), termN x0 w x3 x4 o t) = ∑ r, term x0 w x3 x4 o r := by
  rw [show 512 * 4 = 2048 from rfl, Finset.sum_range]
  refine Finset.sum_congr rfl fun r _ => ?_
  unfold termN
  rw [dif_pos r.isLt]

end Cert.KernelIdeal.Trip

end
-- ==== Proof.Arr2.lean ====
/-
  WHAT THE THIRD CALL LEAVES: the gradient in the hidden activation and the gain's gradient, in closed form. Grid point `t`
  holds 256 weight rows: those of the lower half at the even points, of the upper half at the odd ones.
-/
module

public import proofs.«01_k».proof.Proof.Trip

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.KernelIdeal.Arr2

section Block

variable (c : Dev nD) (i : grid2.Coords) (arg2 : Memref sig .tc .vmem S2048x11008 .bf16) (harg2 : arg2.IsWhole) (arg3 : Memref sig .tc .vmem S256x11008 .i8) (harg3 : arg3.IsWhole) (arg4 : Memref sig .tc .vmem S1x2x11008 .f32) (harg4 : arg4.IsWhole) (arg5 : Memref sig .tc .vmem S2048x256 .bf16) (harg5 : arg5.IsWhole) (arg6 : Memref sig .tc .vmem S2048x128 .f32) (harg6 : arg6.IsWhole) (arg7 : Memref sig .tc .vmem S2048x256 .f32) (harg7 : arg7.IsWhole) (arg8 : Memref sig .tc .vmem S1x256 .f32) (harg8 : arg8.IsWhole) (arg9 : Memref sig .tc .vmem S256x11008 .bf16) (harg9 : arg9.IsWhole)
  (x0 : Vec Ideal S2048x11008 .bf16) (x1 : Vec Ideal S256x11008 .i8) (x2 : Vec Ideal S1x2x11008 .f32)
  (x3 : Vec Ideal S2048x256 .bf16) (x4 : Vec Ideal S2048x128 .f32)

theorem trips : Scf.trips (0#32) (Scalar.addi 0#32 4#32) 1#32 = 4 := by decide +kernel

/-- The weight rows kept for the loop: the lower half's. -/
theorem weightA : arg9.view.read (Elt Ideal) (arg9.view.writes (Elt Ideal) arg9.view.junk
    (kernelRun2_A.sl.HS0_1 c arg3 harg3 arg4 harg4 x1 x2)) = k2_pay2 x1 x2 := by
  unfold kernelRun2_A.sl.HS0_1
  refine (View.read_writes_full _ _ _ _ _).trans ?_
  exact congr (congrArg k2_pay2 ((View.readAt_full _ _ _).trans (harg3.read_unread x1)))
    ((View.readAt_full _ _ _).trans (harg4.read_unread x2))

/-- The block of the gradient. -/
theorem outA5_at (hc0 : cond2_0 i) (hc1 : ¬cond2_1 i) (y0 : Fin 2048) (y1 : Fin 256) :
    out2_A_5 (F := Ideal) c i arg2 harg2 arg3 harg3 arg4 harg4 arg5 harg5 arg6 harg6 arg7 harg7 arg8 harg8 arg9 harg9 hc0 hc1 x0 x1 x2 x3 x4 (ix2 y0 y1)
      = Trip.prod x0 (k2_pay2 x1 x2) y0 y1 := by
  unfold out2_A_5
  rw [View.read_writes_junk_eq_canon]
  refine View.canon_eq_of_allAt _ _ _ (cover2_A_5 c i arg2 harg2 arg3 harg3 arg4 harg4 arg5 harg5 arg6 harg6 arg7 harg7 arg8 harg8 arg9 harg9 hc0 hc1 x0 x1 x2 x3 x4 _) ?_
  unfold kernelRun2_A
  dsimp only
  exact Trip.pieces_at c i arg2 harg2 arg3 harg3 arg4 harg4 arg5 harg5 arg6 harg6 arg7 harg7 arg8 harg8 arg9 harg9 x0 x3 x4 _ _
    (weightA c arg3 harg3 arg4 harg4 arg9 x1 x2) y0 y1 _ (le_of_eq trips)

/-- The block of the gain's gradient. -/
theorem outA6_at (hc0 : cond2_0 i) (hc1 : ¬cond2_1 i) (hx4 : ∀ r j, x4 (ix2 r j) = x4 (ix2 r 0)) (y1 : Fin 256) :
    out2_A_6 (F := Ideal) c i arg2 harg2 arg3 harg3 arg4 harg4 arg5 harg5 arg6 harg6 arg7 harg7 arg8 harg8 arg9 harg9 hc0 hc1 x0 x1 x2 x3 x4 (ix2 0 y1)
      = ∑ r, Trip.term x0 (k2_pay2 x1 x2) x3 x4 y1 r := by
  unfold out2_A_6
  rw [View.read_writes_junk_eq_canon]
  unfold kernelRun2_A
  dsimp only
  rw [View.canon_unit_zero (by funext a; fin_cases a <;> rfl)]
  refine (Trip.sum_at c i arg2 harg2 arg3 harg3 arg4 harg4 arg5 harg5 arg6 harg6 arg7 harg7 arg8 harg8 arg9 harg9 x0 x3 x4 _ _
    (weightA c arg3 harg3 arg4 harg4 arg9 x1 x2) hx4 y1 _ (le_of_eq trips)).trans ?_
  rw [trips]
  exact Trip.all_tokens x0 x3 x4 _ y1

/-- The weight rows kept for the loop: the upper half's. -/
theorem weightB : arg9.view.read (Elt Ideal) (arg9.view.writes (Elt Ideal) arg9.view.junk
    (kernelRun2_B.sl.HS0_1 c arg3 harg3 arg4 harg4 x1 x2)) = k2_pay3 x1 x2 := by
  unfold kernelRun2_B.sl.HS0_1
  refine (View.read_writes_full _ _ _ _ _).trans ?_
  exact congr (congrArg k2_pay3 ((View.readAt_full _ _ _).trans (harg3.read_unread x1)))
    ((View.readAt_full _ _ _).trans (harg4.read_unread x2))

/-- The block of the gradient. -/
theorem outB5_at (hc0 : ¬cond2_0 i) (hc1 : cond2_1 i) (y0 : Fin 2048) (y1 : Fin 256) :
    out2_B_5 (F := Ideal) c i arg2 harg2 arg3 harg3 arg4 harg4 arg5 harg5 arg6 harg6 arg7 harg7 arg8 harg8 arg9 harg9 hc0 hc1 x0 x1 x2 x3 x4 (ix2 y0 y1)
      = Trip.prod x0 (k2_pay3 x1 x2) y0 y1 := by
  unfold out2_B_5
  rw [View.read_writes_junk_eq_canon]
  refine View.canon_eq_of_allAt _ _ _ (cover2_B_5 c i arg2 harg2 arg3 harg3 arg4 harg4 arg5 harg5 arg6 harg6 arg7 harg7 arg8 harg8 arg9 harg9 hc0 hc1 x0 x1 x2 x3 x4 _) ?_
  unfold kernelRun2_B
  dsimp only
  exact Trip.pieces_at c i arg2 harg2 arg3 harg3 arg4 harg4 arg5 harg5 arg6 harg6 arg7 harg7 arg8 harg8 arg9 harg9 x0 x3 x4 _ _
    (weightB c arg3 harg3 arg4 harg4 arg9 x1 x2) y0 y1 _ (le_of_eq trips)

/-- The block of the gain's gradient. -/
theorem outB6_at (hc0 : ¬cond2_0 i) (hc1 : cond2_1 i) (hx4 : ∀ r j, x4 (ix2 r j) = x4 (ix2 r 0)) (y1 : Fin 256) :
    out2_B_6 (F := Ideal) c i arg2 harg2 arg3 harg3 arg4 harg4 arg5 harg5 arg6 harg6 arg7 harg7 arg8 harg8 arg9 harg9 hc0 hc1 x0 x1 x2 x3 x4 (ix2 0 y1)
      = ∑ r, Trip.term x0 (k2_pay3 x1 x2) x3 x4 y1 r := by
  unfold out2_B_6
  rw [View.read_writes_junk_eq_canon]
  unfold kernelRun2_B
  dsimp only
  rw [View.canon_unit_zero (by funext a; fin_cases a <;> rfl)]
  refine (Trip.sum_at c i arg2 harg2 arg3 harg3 arg4 harg4 arg5 harg5 arg6 harg6 arg7 harg7 arg8 harg8 arg9 harg9 x0 x3 x4 _ _
    (weightB c arg3 harg3 arg4 harg4 arg9 x1 x2) hx4 y1 _ (le_of_eq trips)).trans ?_
  rw [trips]
  exact Trip.all_tokens x0 x3 x4 _ y1

end Block

variable (V : (c : Dev nD) → (b : Ref sig .tc) → Buf (Elt Ideal) ((c : Thread nD τ).loc b)) (c : Dev nD)

/-- Where every window's block sits, at every point. -/
theorem idx : ∀ t : Fin cfg2.N, win2_0.index t = ![0, 0] ∧ win2_1.index t = ![t.val / 2, 0]
    ∧ win2_2.index t = ![t.val % 2 * 8 + t.val / 2, 0, 0] ∧ win2_3.index t = ![0, t.val % 2 * 8 + t.val / 2]
    ∧ win2_4.index t = ![0, 0] ∧ win2_5.index t = ![0, t.val % 2 * 8 + t.val / 2]
    ∧ win2_6.index t = ![0, t.val % 2 * 8 + t.val / 2] ∧ t.val < 16 :=
  (by decide +kernel : ∀ t : Fin grid2.N, _)

theorem lt16 (t : Fin cfg2.N) : t.val < 16 := (idx t).2.2.2.2.2.2.2

/-- The hidden column of column `o` of point `t`'s block. -/
def col (t : Fin cfg2.N) (o : Fin 256) : Fin 4096 :=
  ⟨(t.val % 2 * 8 + t.val / 2) * 256 + o.val, by have := lt16 t; omega⟩

/-- The packed row of row `k` of point `t`'s block. -/
def row (t : Fin cfg2.N) (k : Fin 256) : Fin 2048 := ⟨t.val / 2 * 256 + k.val, by have := lt16 t; omega⟩

/-- The pair of scale rows of point `t`'s block. -/
def pair (t : Fin cfg2.N) : Fin 16 := ⟨t.val % 2 * 8 + t.val / 2, by have := lt16 t; omega⟩

/-- The scale row that is member `b` of pair `a`. -/
def scaleRow (a : Fin 16) (b : Fin 2) : Fin 32 := ⟨a.val * 2 + b.val, by omega⟩

/-! The input blocks, read off their arrays. -/

theorem b0_at (t : Fin cfg2.N) (r : Fin 2048) (o : Fin 11008) :
    (iblk2 V c 0 t : Vec Ideal S2048x11008 .bf16) (ix2 r o) = (V c main_v4_0 : FVec Ideal S2048x11008 .bf16) (ix2 r o) := by
  blk_ext [iblk2, idx t]

theorem b1_at (t : Fin cfg2.N) (k : Fin 256) (o : Fin 11008) :
    (iblk2 V c 1 t : Vec Ideal S256x11008 .i8) (ix2 k o) = (V c main_arg4 : IVec S2048x11008 8) (ix2 (row t k) o) := by
  unfold row
  blk_ext [iblk2, idx t]

theorem b2_at (t : Fin cfg2.N) (b : Fin 2) (o : Fin 11008) :
    (iblk2 V c 2 t : Vec Ideal S1x2x11008 .f32) (ix3 0 b o) = (V c main_v5 : FVec Ideal S16x2x11008 .f32) (ix3 (pair t) b o) := by
  unfold pair
  blk_ext [iblk2, idx t]

theorem b3_at (t : Fin cfg2.N) (r : Fin 2048) (o : Fin 256) :
    (iblk2 V c 3 t : Vec Ideal S2048x256 .bf16) (ix2 r o) = (V c main_v0 : FVec Ideal S2048x4096 .bf16) (ix2 r (col t o)) := by
  unfold col
  blk_ext [iblk2, idx t]

theorem b4_at (t : Fin cfg2.N) (r : Fin 2048) (o : Fin 128) :
    (iblk2 V c 4 t : Vec Ideal S2048x128 .f32) (ix2 r o) = (V c main_v3_4 : FVec Ideal S2048x128 .f32) (ix2 r o) := by
  blk_ext [iblk2, idx t]

theorem emb5 (t : Fin cfg2.N) (y0 : Fin 2048) (y1 : Fin 256) :
    (((cfg2.win 5).blk t).view.emb (ix2 y0 y1) : S2048x4096.Idx) = ix2 y0 (col t y1) := by
  unfold col
  blk_ext [idx t]

theorem emb6 (t : Fin cfg2.N) (y0 : Fin 1) (y1 : Fin 256) :
    (((cfg2.win 6).blk t).view.emb (ix2 y0 y1) : S1x4096.Idx) = ix2 0 (col t y1) := by
  unfold col
  blk_ext [idx t]

variable (X : Fin 2048 → Fin 4096 → EReal) (G0 G : Fin 4096 → EReal) (R : Fin 4096 → Fin 11008 → EReal)
  (P : Fin 2048 → Fin 11008 → BitVec 8) (S : Fin 32 → Fin 11008 → EReal)
  (h0 : ∀ r o, (V c main_v4_0 : FVec Ideal S2048x11008 .bf16) (ix2 r o) = Spec.dyAt X G0 G R P S r o)
  (h1 : ∀ k o, (V c main_arg4 : IVec S2048x11008 8) (ix2 k o) = P k o)
  (h2 : ∀ (a : Fin 16) (b : Fin 2) (o : Fin 11008),
    (V c main_v5 : FVec Ideal S16x2x11008 .f32) (ix3 a b o) = S (scaleRow a b) o)
  (h3 : ∀ r k, (V c main_v0 : FVec Ideal S2048x4096 .bf16) (ix2 r k) = X r k)
  (h4 : ∀ r l, (V c main_v3_4 : FVec Ideal S2048x128 .f32) (ix2 r l) = Spec.rinv X r)

include h1 h2 in
/-- At an even point the block's weight rows are the lower half's. -/
theorem w_even (t : Fin cfg2.N) (ht : t.val % 2 = 0) (k : Fin 256) (o : Fin 11008) :
    k2_pay2 (F := Ideal) (iblk2 V c 1 t) (iblk2 V c 2 t) (ix2 k o) = Spec.w P S (col t k) o := by
  have h16 := lt16 t
  refine (Block2.wLo_at _ _ k o).trans ?_
  rw [b1_at V c t k o, b2_at V c t _ o, h1, h2]
  have hlt : (col t k).val < 2048 := by simp only [col]; omega
  unfold Spec.w Spec.wLo
  rw [dif_pos hlt]
  have e1 : (⟨(col t k).val, hlt⟩ : Fin 2048) = row t k := Fin.ext (by simp only [col, row]; omega)
  have e2 : Spec.rowLo (row t k) = scaleRow (pair t) ⟨k.val / 128, by omega⟩ :=
    Fin.ext (by simp only [scaleRow, Spec.rowLo, row, pair]; omega)
  rw [e1, e2]

include h1 h2 in
/-- At an odd point the block's weight rows are the upper half's. -/
theorem w_odd (t : Fin cfg2.N) (ht : t.val % 2 = 1) (k : Fin 256) (o : Fin 11008) :
    k2_pay3 (F := Ideal) (iblk2 V c 1 t) (iblk2 V c 2 t) (ix2 k o) = Spec.w P S (col t k) o := by
  have h16 := lt16 t
  refine (Block2.wHi_at _ _ k o).trans ?_
  rw [b1_at V c t k o, b2_at V c t _ o, h1, h2]
  have hlt : ¬ (col t k).val < 2048 := by simp only [col]; omega
  unfold Spec.w Spec.wHi
  rw [dif_neg hlt]
  have e1 : (⟨(col t k).val - 2048, by omega⟩ : Fin 2048) = row t k := Fin.ext (by simp only [col, row]; omega)
  have e2 : Spec.rowHi (row t k) = scaleRow (pair t) ⟨k.val / 128, by omega⟩ :=
    Fin.ext (by simp only [scaleRow, Spec.rowHi, row, pair]; omega)
  rw [e1, e2]

include h0 in
/-- A point's products, its weight rows being the hidden columns'. -/
theorem prod_at (t : Fin cfg2.N) (wt : Vec Ideal S256x11008 .bf16)
    (hw : ∀ k o, wt (ix2 k o) = Spec.w P S (col t k) o) (r : Fin 2048) (o : Fin 256) :
    Trip.prod (iblk2 V c 0 t) wt r o = Spec.dh X G0 G R P S r (col t o) := by
  unfold Trip.prod Spec.dh
  refine Finset.sum_congr rfl fun j _ => ?_
  rw [b0_at V c t r j, h0, hw]

include h0 h3 h4 in
/-- A point's sum over the tokens. -/
theorem sum_at (t : Fin cfg2.N) (wt : Vec Ideal S256x11008 .bf16)
    (hw : ∀ k o, wt (ix2 k o) = Spec.w P S (col t k) o) (o : Fin 256) :
    (∑ r, Trip.term (iblk2 V c 0 t) wt (iblk2 V c 3 t) (iblk2 V c 4 t) o r) = Spec.dg X G0 G R P S (col t o) := by
  unfold Trip.term Spec.dg Spec.nrm
  refine Finset.sum_congr rfl fun r _ => ?_
  rw [prod_at V c X G0 G R P S h0 t wt hw r o, b3_at V c t r o, b4_at V c t r 0, h3, h4]

include h4 in
theorem row_const (t : Fin cfg2.N) (r : Fin 2048) (j : Fin 128) :
    (iblk2 V c 4 t : Vec Ideal S2048x128 .f32) (ix2 r j) = (iblk2 V c 4 t : Vec Ideal S2048x128 .f32) (ix2 r 0) := by
  rw [b4_at V c t r j, b4_at V c t r 0, h4, h4]

include h0 h1 h2 in
/-- What point `t` leaves of the gradient. -/
theorem dh_point (t : Fin cfg2.N) (y0 : Fin 2048) (y1 : Fin 256) :
    (outsAt2 V c t.val t.isLt).1 (ix2 y0 y1) = Spec.dh X G0 G R P S y0 (col t y1) := by
  rcases Nat.mod_two_eq_zero_or_one t.val with ht | ht
  · rw [outsAt2_A V c t ht (by omega)]
    dsimp only
    refine (outA5_at _ _ _ _ _ _ _ _ _ _ _ _ _ _ _ _ _ _ _ _ _ _ _ _ _ y0 y1).trans ?_
    exact prod_at V c X G0 G R P S h0 t _ (w_even V c P S h1 h2 t ht) y0 y1
  · rw [outsAt2_B V c t (by omega) ht]
    dsimp only
    refine (outB5_at _ _ _ _ _ _ _ _ _ _ _ _ _ _ _ _ _ _ _ _ _ _ _ _ _ y0 y1).trans ?_
    exact prod_at V c X G0 G R P S h0 t _ (w_odd V c P S h1 h2 t ht) y0 y1

include h0 h1 h2 h3 h4 in
/-- What point `t` leaves of the gain's gradient. -/
theorem dg_point (t : Fin cfg2.N) (y1 : Fin 256) :
    (outsAt2 V c t.val t.isLt).2 (ix2 0 y1) = Spec.dg X G0 G R P S (col t y1) := by
  rcases Nat.mod_two_eq_zero_or_one t.val with ht | ht
  · rw [outsAt2_A V c t ht (by omega)]
    dsimp only
    refine (outA6_at _ _ _ _ _ _ _ _ _ _ _ _ _ _ _ _ _ _ _ _ _ _ _ _ _ (row_const V c X h4 t) y1).trans ?_
    exact sum_at V c X G0 G R P S h0 h3 h4 t _ (w_even V c P S h1 h2 t ht) y1
  · rw [outsAt2_B V c t (by omega) ht]
    dsimp only
    refine (outB6_at _ _ _ _ _ _ _ _ _ _ _ _ _ _ _ _ _ _ _ _ _ _ _ _ _ (row_const V c X h4 t) y1).trans ?_
    exact sum_at V c X G0 G R P S h0 h3 h4 t _ (w_odd V c P S h1 h2 t ht) y1

include h0 h1 h2 in
/-- The gradient in the hidden activation. -/
theorem dh_arr : (dat2 V c).arrAt 5 cfg2.N
    = (fun j => Spec.dh X G0 G R P S (j 0) (j 1) : FVec Ideal S2048x4096 .f32) := by
  refine (dat2 V c).arrAt_eq_of_covers 5 _ (by decide +kernel) fun t _ y => ?_
  blk_simp
  rw [after2_5]
  idx_vars y
  refine (dh_point V c X G0 G R P S h0 h1 h2 t y0 y1).trans ?_
  exact (congrArg (fun j : S2048x4096.Idx => Spec.dh X G0 G R P S (j 0) (j 1)) (emb5 t y0 y1)).symm

include h0 h1 h2 h3 h4 in
/-- The gain's gradient. -/
theorem dg_arr : (dat2 V c).arrAt 6 cfg2.N
    = (fun j => Spec.dg X G0 G R P S (j 1) : FVec Ideal S1x4096 .f32) := by
  refine (dat2 V c).arrAt_eq_of_covers 6 _ (by decide +kernel) fun t _ y => ?_
  blk_simp
  rw [after2_6]
  idx_vars y
  obtain rfl : y0 = 0 := Subsingleton.elim _ _
  refine (dg_point V c X G0 G R P S h0 h1 h2 h3 h4 t y1).trans ?_
  exact (congrArg (fun j : S1x4096.Idx => Spec.dg X G0 G R P S (j 1)) (emb6 t 0 y1)).symm

end Cert.KernelIdeal.Arr2

end
-- ==== Proof.Run.lean ====
/-
  THE KERNEL'S RUN, READ AT THE LAST BOUNDARY: from any memory with zero counters the program terminates, and every
  unscoped buffer ends at the contents the boundaries' fold gives it. The launch is the frame's.
-/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every unscoped buffer ends at the last boundary's contents. -/
theorem run : θ_run defs (onTc (τ := τ) (main (F := F))) ⟨m, fun _ => 0, ρ⟩ (fun r =>
      ∀ c : Dev nD, ∀ b ∈ Pipeline.ucRefs τ sig, r.2.mem (((c : Thread nD τ)).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

end Cert.KernelIdeal.Run

end
-- ==== Proof.Bound.lean ====
/-
  THE KERNEL'S FIVE RESULTS IN CLOSED FORM: what each call finds in its arrays is an argument, a reshape of one, or what an
  earlier call left, so the three calls' closed forms compose.
-/
module

public import proofs.«01_k».proof.Proof.Arr2
public import proofs.«01_k».proof.Proof.Run
public import Idealize.ShloMosaic.Lib.Claim

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen

namespace Cert.KernelIdeal.Bound

variable (m : (ℓ : Loc nD τ sig) → Buf (Elt Ideal) ℓ) (ρ : Dev nD → PrngReg) (c : Dev nD)

/-! The arguments, as the mathematics takes them. -/

/-- The activations, a row to a token. -/
def X (r : Fin 2048) (k : Fin 4096) : EReal :=
  (shapeCast S2048x4096 (m ((c : Thread nD τ).loc main_arg0) : FVec Ideal S2x1024x4096 .bf16) shapeCasts_S2x1024x4096_S2048x4096 :
    FVec Ideal S2048x4096 .bf16) (ix2 r k)

/-- The reference model's gain. -/
def G0 (k : Fin 4096) : EReal :=
  (shapeCast S1x4096 (m ((c : Thread nD τ).loc main_arg1) : FVec Ideal S4096 .f32) shapeCasts_S4096_S1x4096 :
    FVec Ideal S1x4096 .f32) (ix2 0 k)

/-- The trained gain. -/
def G (k : Fin 4096) : EReal :=
  (shapeCast S1x4096 (m ((c : Thread nD τ).loc main_arg2) : FVec Ideal S4096 .f32) shapeCasts_S4096_S1x4096 :
    FVec Ideal S1x4096 .f32) (ix2 0 k)

/-- The reference weight. -/
def R (k : Fin 4096) (o : Fin 11008) : EReal := (m ((c : Thread nD τ).loc main_arg3) : FVec Ideal S4096x11008 .bf16) (ix2 k o)

/-- The packed weight. -/
def P (k : Fin 2048) (o : Fin 11008) : BitVec 8 := (m ((c : Thread nD τ).loc main_arg4) : IVec S2048x11008 8) (ix2 k o)

/-- The weight's scales. -/
def S (k : Fin 32) (o : Fin 11008) : EReal := (m ((c : Thread nD τ).loc main_arg5) : FVec Ideal S32x11008 .f32) (ix2 k o)

/-! What the first call finds. -/

theorem v0_1 : V1 m ρ c main_v0 = (shapeCast S2048x4096 (m ((c : Thread nD τ).loc main_arg0) : FVec Ideal S2x1024x4096 .bf16)
    shapeCasts_S2x1024x4096_S2048x4096 : FVec Ideal S2048x4096 .bf16) := by
  show StableHlo.after hostOps0 (W0 m ρ c) (Proc.devRef .tc main_v0) = _
  entry_read
  rfl

theorem v1_1 : V1 m ρ c main_v1 = (shapeCast S1x4096 (m ((c : Thread nD τ).loc main_arg1) : FVec Ideal S4096 .f32)
    shapeCasts_S4096_S1x4096 : FVec Ideal S1x4096 .f32) := by
  show StableHlo.after hostOps0 (W0 m ρ c) (Proc.devRef .tc main_v1) = _
  entry_read
  rfl

theorem v2_1 : V1 m ρ c main_v2 = (shapeCast S1x4096 (m ((c : Thread nD τ).loc main_arg2) : FVec Ideal S4096 .f32)
    shapeCasts_S4096_S1x4096 : FVec Ideal S1x4096 .f32) := by
  show StableHlo.after hostOps0 (W0 m ρ c) (Proc.devRef .tc main_v2) = _
  entry_read
  rfl

theorem X_eq : Arr0.X (V1 m ρ) c = X m c := by
  funext r k
  exact congrFun (v0_1 m ρ c) _

theorem G0_eq : Arr0.G0 (V1 m ρ) c = G0 m c := by
  funext k
  exact congrFun (v1_1 m ρ c) _

theorem G_eq : Arr0.G (V1 m ρ) c = G m c := by
  funext k
  exact congrFun (v2_1 m ρ c) _

/-! What the second call finds. -/

theorem hf_2 (r : Fin 2048) (k : Fin 4096) :
    (V2 m ρ c main_v3_0 : FVec Ideal S2048x4096 .bf16) (ix2 r k) = Spec.gained (X m c) (G0 m c) r k := by
  rw [← X_eq m ρ c, ← G0_eq m ρ c]
  exact congrFun ((W2_arr m ρ c 3).trans (Arr0.hf_arr (V1 m ρ) c)) (ix2 r k)

theorem codes_2 (r : Fin 2048) (k : Fin 4096) :
    (V2 m ρ c main_v3_1 : IVec S2048x4096 8) (ix2 r k) = Spec.code (X m c) (G m c) r k := by
  rw [← X_eq m ρ c, ← G_eq m ρ c]
  exact congrFun ((W2_arr m ρ c 4).trans (Arr0.codes_arr (V1 m ρ) c)) (ix2 r k)

theorem srow_2 (r : Fin 2048) (l : Fin 128) :
    (V2 m ρ c main_v3_3 : FVec Ideal S2048x128 .f32) (ix2 r l) = Spec.scale (X m c) (G m c) r := by
  rw [← X_eq m ρ c, ← G_eq m ρ c]
  exact congrFun ((W2_arr m ρ c 6).trans (Arr0.srow_arr (V1 m ρ) c)) (ix2 r l)

theorem arg3_2 (k : Fin 4096) (o : Fin 11008) :
    (V2 m ρ c main_arg3 : FVec Ideal S4096x11008 .bf16) (ix2 k o) = R m c k o :=
  congrFun (W2_args m ρ c main_arg3 (by decide)) _

theorem arg4_2 (k : Fin 2048) (o : Fin 11008) : (V2 m ρ c main_arg4 : IVec S2048x11008 8) (ix2 k o) = P m c k o :=
  congrFun (W2_args m ρ c main_arg4 (by decide)) _

theorem arg5_2 (k : Fin 32) (o : Fin 11008) : (V2 m ρ c main_arg5 : FVec Ideal S32x11008 .f32) (ix2 k o) = S m c k o :=
  congrFun (W2_args m ρ c main_arg5 (by decide)) _

theorem dy_3 : W3 m ρ c (Proc.devRef .tc main_v4_0)
    = (fun j => Spec.dyAt (X m c) (G0 m c) (G m c) (R m c) (P m c) (S m c) (j 0) (j 1) : FVec Ideal S2048x11008 .bf16) :=
  (W3_arr m ρ c 6).trans (Arr1.dy_arr (V2 m ρ) c _ _ _ _ _ _ (hf_2 m ρ c) (codes_2 m ρ c) (srow_2 m ρ c) (arg3_2 m ρ c)
    (arg4_2 m ρ c) (arg5_2 m ρ c))

theorem kl_3 : W3 m ρ c (Proc.devRef .tc main_v4_1)
    = (fun j => Spec.klAt (X m c) (G0 m c) (G m c) (R m c) (P m c) (S m c) (j 1) : FVec Ideal S1x11008 .f32) :=
  (W3_arr m ρ c 7).trans (Arr1.kl_arr (V2 m ρ) c _ _ _ _ _ _ (hf_2 m ρ c) (codes_2 m ρ c) (srow_2 m ρ c) (arg3_2 m ρ c)
    (arg4_2 m ρ c) (arg5_2 m ρ c))

/-! What the third call finds. -/

theorem dy_4 (r : Fin 2048) (o : Fin 11008) : (V4 m ρ c main_v4_0 : FVec Ideal S2048x11008 .bf16) (ix2 r o)
    = Spec.dyAt (X m c) (G0 m c) (G m c) (R m c) (P m c) (S m c) r o :=
  congrFun ((W4_of m ρ c main_v4_0 (by decide)).trans (dy_3 m ρ c)) (ix2 r o)

theorem arg4_4 (k : Fin 2048) (o : Fin 11008) : (V4 m ρ c main_arg4 : IVec S2048x11008 8) (ix2 k o) = P m c k o :=
  congrFun (W4_args m ρ c main_arg4 (by decide)) _

theorem v5_4 : V4 m ρ c main_v5 = (shapeCast S16x2x11008 (W3 m ρ c (Proc.devRef .tc main_arg5) : FVec Ideal S32x11008 .f32)
    shapeCasts_S32x11008_S16x2x11008 : FVec Ideal S16x2x11008 .f32) := by
  show StableHlo.after hostOps2 (W3 m ρ c) (Proc.devRef .tc main_v5) = _
  entry_read
  rfl

/-- Scale rows regrouped in pairs. -/
theorem pairs_read (s : FVec Ideal S32x11008 .f32) (a : Fin 16) (b : Fin 2) (o : Fin 11008) :
    shapeCast S16x2x11008 s shapeCasts_S32x11008_S16x2x11008 (ix3 a b o) = s (ix2 (Arr2.scaleRow a b) o) := by
  unfold Arr2.scaleRow
  pointwise

theorem pairs_4 (a : Fin 16) (b : Fin 2) (o : Fin 11008) : (V4 m ρ c main_v5 : FVec Ideal S16x2x11008 .f32) (ix3 a b o)
    = S m c (Arr2.scaleRow a b) o := by
  refine (congrFun (v5_4 m ρ c) _).trans ((pairs_read _ a b o).trans ?_)
  exact congrFun (W3_args m ρ c main_arg5 (by decide)) _

theorem x_4 (r : Fin 2048) (k : Fin 4096) : (V4 m ρ c main_v0 : FVec Ideal S2048x4096 .bf16) (ix2 r k) = X m c r k :=
  congrFun ((W4_of m ρ c main_v0 (by decide)).trans ((W3_of m ρ c main_v0 (by decide)).trans
    ((W2_of m ρ c main_v0 (by decide)).trans (v0_1 m ρ c)))) (ix2 r k)

theorem rrow_4 (r : Fin 2048) (l : Fin 128) : (V4 m ρ c main_v3_4 : FVec Ideal S2048x128 .f32) (ix2 r l)
    = Spec.rinv (X m c) r := by
  rw [← X_eq m ρ c]
  exact congrFun ((W4_of m ρ c main_v3_4 (by decide)).trans ((W3_of m ρ c main_v3_4 (by decide)).trans
    ((W2_arr m ρ c 7).trans (Arr0.rrow_arr (V1 m ρ) c)))) (ix2 r l)

/-! The results, at the end. -/

/-- The KL row. -/
theorem kl_end : W5 m ρ c (Proc.devRef .tc main_v4_1)
    = (fun j => Spec.klAt (X m c) (G0 m c) (G m c) (R m c) (P m c) (S m c) (j 1) : FVec Ideal S1x11008 .f32) :=
  (W5_of m ρ c main_v4_1 (by decide)).trans ((W4_of m ρ c main_v4_1 (by decide)).trans (kl_3 m ρ c))

/-- The gain's gradient. -/
theorem dg_end : W5 m ρ c (Proc.devRef .tc main_v6_1)
    = (fun j => Spec.dg (X m c) (G0 m c) (G m c) (R m c) (P m c) (S m c) (j 1) : FVec Ideal S1x4096 .f32) :=
  (W5_arr m ρ c 6).trans (Arr2.dg_arr (V4 m ρ) c _ _ _ _ _ _ (dy_4 m ρ c) (arg4_4 m ρ c) (pairs_4 m ρ c) (x_4 m ρ c)
    (rrow_4 m ρ c))

/-- The gradient in the hidden activation. -/
theorem dh_end : W5 m ρ c (Proc.devRef .tc main_v6_0)
    = (fun j => Spec.dh (X m c) (G0 m c) (G m c) (R m c) (P m c) (S m c) (j 0) (j 1) : FVec Ideal S2048x4096 .f32) :=
  (W5_arr m ρ c 5).trans (Arr2.dh_arr (V4 m ρ) c _ _ _ _ _ _ (dy_4 m ρ c) (arg4_4 m ρ c) (pairs_4 m ρ c))

/-- The codes. -/
theorem codes_end : W5 m ρ c (Proc.devRef .tc main_v3_1)
    = (fun j => Spec.code (X m c) (G m c) (j 0) (j 1) : IVec S2048x4096 8) := by
  rw [← X_eq m ρ c, ← G_eq m ρ c]
  exact (W5_of m ρ c main_v3_1 (by decide)).trans ((W4_of m ρ c main_v3_1 (by decide)).trans
    ((W3_of m ρ c main_v3_1 (by decide)).trans ((W2_arr m ρ c 4).trans (Arr0.codes_arr (V1 m ρ) c))))

/-- The scales. -/
theorem scales_end : W5 m ρ c (Proc.devRef .tc main_v3_2)
    = (fun j => Spec.scale (X m c) (G m c) (j 1) : FVec Ideal S1x2048 .f32) := by
  rw [← X_eq m ρ c, ← G_eq m ρ c]
  exact (W5_of m ρ c main_v3_2 (by decide)).trans ((W4_of m ρ c main_v3_2 (by decide)).trans
    ((W3_of m ρ c main_v3_2 (by decide)).trans ((W2_arr m ρ c 5).trans (Arr0.scales_arr (V1 m ρ) c))))

end Cert.KernelIdeal.Bound

end
-- ==== Proof.RefArr.lean ====
/-
  THE REFERENCE'S FIVE RESULTS IN CLOSED FORM: its one call sees whole arrays, so each result is its body's value.
-/
module

public import proofs.«01_k».proof.Proof.Bound
public import proofs.«01_k».proof.Proof.RefBlock
public import proofs.«01_k».proof.Proof.Gen.ReferenceIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.ReferenceIdeal Cert.ReferenceIdeal.Gen

namespace Cert.ReferenceIdeal.RefArr

section Body

variable (X : Fin 2048 → Fin 4096 → EReal) (G0 G : Fin 4096 → EReal) (R : Fin 4096 → Fin 11008 → EReal)
  (P : Fin 2048 → Fin 11008 → BitVec 8) (S : Fin 32 → Fin 11008 → EReal)
  (x0 : Vec Ideal S2048x4096 .bf16) (x1 x2 : Vec Ideal S1x4096 .f32) (x3 : Vec Ideal S4096x11008 .bf16)
  (x4 : Vec Ideal S2048x11008 .i8) (x5 : Vec Ideal S32x11008 .f32)
  (h0 : ∀ r k, x0 (ix2 r k) = X r k) (h1 : ∀ k, x1 (ix2 0 k) = G0 k) (h2 : ∀ k, x2 (ix2 0 k) = G k)
  (h3 : ∀ k o, x3 (ix2 k o) = R k o) (h4 : ∀ k o, x4 (ix2 k o) = P k o) (h5 : ∀ k o, x5 (ix2 k o) = S k o)

/-! The body loads its arguments whole. -/

theorem ld0 : View.ld x0 r0_0 = x0 := View.ld_unit_zero (by funext a; fin_cases a <;> rfl) _ x0
theorem ld1 (x : Vec Ideal S1x4096 .f32) : View.ld x r0_1 = x := View.ld_unit_zero (by funext a; fin_cases a <;> rfl) _ x
theorem ld3 : View.ld x3 r0_2 = x3 := View.ld_unit_zero (by funext a; fin_cases a <;> rfl) _ x3
theorem ld4 : View.ld x4 r0_3 = x4 := View.ld_unit_zero (by funext a; fin_cases a <;> rfl) _ x4
theorem ld5 : View.ld x5 r0_4 = x5 := View.ld_unit_zero (by funext a; fin_cases a <;> rfl) _ x5

include h0 h1 h3 in
theorem f_at (r : Fin 2048) (o : Fin 11008) : k0_pay26 x0 x1 x2 x3 x4 x5 (ix2 r o) = Spec.yF X G0 R o r := by
  unfold k0_pay26
  rw [ld0, ld1, ld3]
  exact RefBlock.yF_at X G0 x0 x1 R x3 h0 h1 h3 r o

include h0 h2 h4 h5 in
theorem q_at (r : Fin 2048) (o : Fin 11008) : k0_pay31 x0 x1 x2 x3 x4 x5 (ix2 r o) = Spec.yQ X G P S o r := by
  unfold k0_pay31 k0_pay27 k0_pay28
  rw [ld0, ld1, ld4, ld5]
  exact RefBlock.yQ_at P S x4 x5 X G x0 x2 h0 h2 h4 h5 r o

include h4 h5 in
theorem lo_at (k : Fin 2048) (o : Fin 11008) : k0_pay29 x0 x1 x2 x3 x4 x5 (ix2 k o) = Spec.wLo P S k o := by
  unfold k0_pay29
  rw [ld4, ld5]
  exact RefBlock.wLo_at P S x4 x5 h4 h5 k o

include h4 h5 in
theorem hi_at (k : Fin 2048) (o : Fin 11008) : k0_pay30 x0 x1 x2 x3 x4 x5 (ix2 k o) = Spec.wHi P S k o := by
  unfold k0_pay30
  rw [ld4, ld5]
  exact RefBlock.wHi_at P S x4 x5 h4 h5 k o

include h0 h1 h2 h3 h4 h5 in
theorem kl_at (o : Fin 11008) : out0_6 x0 x1 x2 x3 x4 x5 (ix2 0 o) = Spec.klAt X G0 G R P S o := by
  unfold out0_6 k0_pay32 k0_pay33
  rw [View.canon_unit_zero (by funext a; fin_cases a <;> rfl)]
  exact RefBlock.kl_at _ _ o _ _ (fun r => f_at X G0 R x0 x1 x2 x3 x4 x5 h0 h1 h3 r o)
    (fun r => q_at X G P S x0 x1 x2 x3 x4 x5 h0 h2 h4 h5 r o)

include h0 h1 h2 h3 h4 h5 in
theorem dg_at (c : Fin 4096) : out0_7 x0 x1 x2 x3 x4 x5 (ix2 0 c) = Spec.dg X G0 G R P S c := by
  unfold out0_7 k0_pay34 k0_pay35 k0_pay36 k0_pay32 k0_pay33
  rw [View.canon_unit_zero (by funext a; fin_cases a <;> rfl), ld0]
  exact RefBlock.dg_at X G0 G R P S _ _ _ _ x0 h0 (f_at X G0 R x0 x1 x2 x3 x4 x5 h0 h1 h3)
    (q_at X G P S x0 x1 x2 x3 x4 x5 h0 h2 h4 h5) (lo_at P S x0 x1 x2 x3 x4 x5 h4 h5) (hi_at P S x0 x1 x2 x3 x4 x5 h4 h5) c

include h0 h1 h2 h3 h4 h5 in
theorem dh_at (r : Fin 2048) (c : Fin 4096) : out0_8 x0 x1 x2 x3 x4 x5 (ix2 r c) = Spec.dh X G0 G R P S r c := by
  unfold out0_8 k0_pay34 k0_pay35 k0_pay36 k0_pay32 k0_pay33
  rw [View.canon_unit_zero (by funext a; fin_cases a <;> rfl)]
  exact RefBlock.dh_at X G0 G R P S _ _ _ _ (f_at X G0 R x0 x1 x2 x3 x4 x5 h0 h1 h3)
    (q_at X G P S x0 x1 x2 x3 x4 x5 h0 h2 h4 h5) (lo_at P S x0 x1 x2 x3 x4 x5 h4 h5) (hi_at P S x0 x1 x2 x3 x4 x5 h4 h5) r c

include h0 h2 in
theorem codes_at (r : Fin 2048) (k : Fin 4096) : out0_9 x0 x1 x2 x3 x4 x5 (ix2 r k) = Spec.code X G r k := by
  unfold out0_9 k0_pay28
  rw [View.canon_unit_zero (by funext a; fin_cases a <;> rfl), ld0, ld1]
  exact RefBlock.code_at X G x0 x2 h0 h2 r k

include h0 h2 in
theorem scales_at (r : Fin 2048) : out0_10 x0 x1 x2 x3 x4 x5 (ix2 0 r) = Spec.scale X G r := by
  unfold out0_10 k0_pay27
  rw [View.canon_unit_zero (by funext a; fin_cases a <;> rfl), ld0, ld1]
  exact (RefBlock.scaleRow_at _ r).trans (RefBlock.scale_at X G x0 x2 h0 h2 r)

end Body

variable (m : (ℓ : Loc nD τ sig) → Buf (Elt Ideal) ℓ) (c : Dev nD)

/-- Every window's block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

theorem b0_at (t : Fin cfg0.N) (r : Fin 2048) (k : Fin 4096) :
    (iblk m c 0 t : Vec Ideal S2048x4096 .bf16) (ix2 r k) = (V m c main_v0 : FVec Ideal S2048x4096 .bf16) (ix2 r k) := by
  blk_ext [iblk, idx t]

theorem b1_at (t : Fin cfg0.N) (k : Fin 4096) :
    (iblk m c 1 t : Vec Ideal S1x4096 .f32) (ix2 0 k) = (V m c main_v1 : FVec Ideal S1x4096 .f32) (ix2 0 k) := by
  blk_ext [iblk, idx t]

theorem b2_at (t : Fin cfg0.N) (k : Fin 4096) :
    (iblk m c 2 t : Vec Ideal S1x4096 .f32) (ix2 0 k) = (V m c main_v2 : FVec Ideal S1x4096 .f32) (ix2 0 k) := by
  blk_ext [iblk, idx t]

theorem b3_at (t : Fin cfg0.N) (k : Fin 4096) (o : Fin 11008) :
    (iblk m c 3 t : Vec Ideal S4096x11008 .bf16) (ix2 k o) = (V m c main_arg3 : FVec Ideal S4096x11008 .bf16) (ix2 k o) := by
  blk_ext [iblk, idx t]

theorem b4_at (t : Fin cfg0.N) (k : Fin 2048) (o : Fin 11008) :
    (iblk m c 4 t : Vec Ideal S2048x11008 .i8) (ix2 k o) = (V m c main_arg4 : IVec S2048x11008 8) (ix2 k o) := by
  blk_ext [iblk, idx t]

theorem b5_at (t : Fin cfg0.N) (k : Fin 32) (o : Fin 11008) :
    (iblk m c 5 t : Vec Ideal S32x11008 .f32) (ix2 k o) = (V m c main_arg5 : FVec Ideal S32x11008 .f32) (ix2 k o) := by
  blk_ext [iblk, idx t]

theorem emb6 (t : Fin cfg0.N) (y1 : Fin 11008) : (((cfg0.win 6).blk t).view.emb (ix2 0 y1) : S1x11008.Idx) = ix2 0 y1 := by
  blk_ext [idx t]

theorem emb7 (t : Fin cfg0.N) (y1 : Fin 4096) : (((cfg0.win 7).blk t).view.emb (ix2 0 y1) : S1x4096.Idx) = ix2 0 y1 := by
  blk_ext [idx t]

theorem emb8 (t : Fin cfg0.N) (y0 : Fin 2048) (y1 : Fin 4096) :
    (((cfg0.win 8).blk t).view.emb (ix2 y0 y1) : S2048x4096.Idx) = ix2 y0 y1 := by
  blk_ext [idx t]

theorem emb9 (t : Fin cfg0.N) (y0 : Fin 2048) (y1 : Fin 4096) :
    (((cfg0.win 9).blk t).view.emb (ix2 y0 y1) : S2048x4096.Idx) = ix2 y0 y1 := by
  blk_ext [idx t]

theorem emb10 (t : Fin cfg0.N) (y1 : Fin 2048) : (((cfg0.win 10).blk t).view.emb (ix2 0 y1) : S1x2048.Idx) = ix2 0 y1 := by
  blk_ext [idx t]

variable (X : Fin 2048 → Fin 4096 → EReal) (G0 G : Fin 4096 → EReal) (R : Fin 4096 → Fin 11008 → EReal)
  (P : Fin 2048 → Fin 11008 → BitVec 8) (S : Fin 32 → Fin 11008 → EReal)
  (h0 : ∀ r k, (V m c main_v0 : FVec Ideal S2048x4096 .bf16) (ix2 r k) = X r k)
  (h1 : ∀ k, (V m c main_v1 : FVec Ideal S1x4096 .f32) (ix2 0 k) = G0 k)
  (h2 : ∀ k, (V m c main_v2 : FVec Ideal S1x4096 .f32) (ix2 0 k) = G k)
  (h3 : ∀ k o, (V m c main_arg3 : FVec Ideal S4096x11008 .bf16) (ix2 k o) = R k o)
  (h4 : ∀ k o, (V m c main_arg4 : IVec S2048x11008 8) (ix2 k o) = P k o)
  (h5 : ∀ k o, (V m c main_arg5 : FVec Ideal S32x11008 .f32) (ix2 k o) = S k o)

include h0 h1 h2 h3 h4 h5 in
/-- The KL row. -/
theorem kl_arr : (dats m 0 c).arrAt 6 cfg0.N = (fun j => Spec.klAt X G0 G R P S (j 1) : FVec Ideal S1x11008 .f32) := by
  refine (dats m 0 c).arrAt_eq_of_covers 6 _ (by decide +kernel) fun t _ y => ?_
  blk_simp
  rw [after0_6]
  idx_vars y
  obtain rfl : y0 = 0 := Subsingleton.elim _ _
  refine (kl_at X G0 G R P S _ _ _ _ _ _ (fun r k => (b0_at m c t r k).trans (h0 r k)) (fun k => (b1_at m c t k).trans (h1 k))
    (fun k => (b2_at m c t k).trans (h2 k)) (fun k o => (b3_at m c t k o).trans (h3 k o))
    (fun k o => (b4_at m c t k o).trans (h4 k o)) (fun k o => (b5_at m c t k o).trans (h5 k o)) y1).trans ?_
  exact (congrArg (fun j : S1x11008.Idx => Spec.klAt X G0 G R P S (j 1)) (emb6 t y1)).symm

include h0 h1 h2 h3 h4 h5 in
/-- The gain's gradient. -/
theorem dg_arr : (dats m 0 c).arrAt 7 cfg0.N = (fun j => Spec.dg X G0 G R P S (j 1) : FVec Ideal S1x4096 .f32) := by
  refine (dats m 0 c).arrAt_eq_of_covers 7 _ (by decide +kernel) fun t _ y => ?_
  blk_simp
  rw [after0_7]
  idx_vars y
  obtain rfl : y0 = 0 := Subsingleton.elim _ _
  refine (dg_at X G0 G R P S _ _ _ _ _ _ (fun r k => (b0_at m c t r k).trans (h0 r k)) (fun k => (b1_at m c t k).trans (h1 k))
    (fun k => (b2_at m c t k).trans (h2 k)) (fun k o => (b3_at m c t k o).trans (h3 k o))
    (fun k o => (b4_at m c t k o).trans (h4 k o)) (fun k o => (b5_at m c t k o).trans (h5 k o)) y1).trans ?_
  exact (congrArg (fun j : S1x4096.Idx => Spec.dg X G0 G R P S (j 1)) (emb7 t y1)).symm

include h0 h1 h2 h3 h4 h5 in
/-- The gradient in the hidden activation. -/
theorem dh_arr : (dats m 0 c).arrAt 8 cfg0.N = (fun j => Spec.dh X G0 G R P S (j 0) (j 1) : FVec Ideal S2048x4096 .f32) := by
  refine (dats m 0 c).arrAt_eq_of_covers 8 _ (by decide +kernel) fun t _ y => ?_
  blk_simp
  rw [after0_8]
  idx_vars y
  refine (dh_at X G0 G R P S _ _ _ _ _ _ (fun r k => (b0_at m c t r k).trans (h0 r k)) (fun k => (b1_at m c t k).trans (h1 k))
    (fun k => (b2_at m c t k).trans (h2 k)) (fun k o => (b3_at m c t k o).trans (h3 k o))
    (fun k o => (b4_at m c t k o).trans (h4 k o)) (fun k o => (b5_at m c t k o).trans (h5 k o)) y0 y1).trans ?_
  exact (congrArg (fun j : S2048x4096.Idx => Spec.dh X G0 G R P S (j 0) (j 1)) (emb8 t y0 y1)).symm

include h0 h2 in
/-- The codes. -/
theorem codes_arr : (dats m 0 c).arrAt 9 cfg0.N = (fun j => Spec.code X G (j 0) (j 1) : IVec S2048x4096 8) := by
  refine (dats m 0 c).arrAt_eq_of_covers 9 _ (by decide +kernel) fun t _ y => ?_
  blk_simp
  rw [after0_9]
  idx_vars y
  refine (codes_at X G _ _ _ _ _ _ (fun r k => (b0_at m c t r k).trans (h0 r k))
    (fun k => (b2_at m c t k).trans (h2 k)) y0 y1).trans ?_
  exact (congrArg (fun j : S2048x4096.Idx => Spec.code X G (j 0) (j 1)) (emb9 t y0 y1)).symm

include h0 h2 in
/-- The scales. -/
theorem scales_arr : (dats m 0 c).arrAt 10 cfg0.N = (fun j => Spec.scale X G (j 1) : FVec Ideal S1x2048 .f32) := by
  refine (dats m 0 c).arrAt_eq_of_covers 10 _ (by decide +kernel) fun t _ y => ?_
  blk_simp
  rw [after0_10]
  idx_vars y
  obtain rfl : y0 = 0 := Subsingleton.elim _ _
  refine (scales_at X G _ _ _ _ _ _ (fun r k => (b0_at m c t r k).trans (h0 r k))
    (fun k => (b2_at m c t k).trans (h2 k)) y1).trans ?_
  exact (congrArg (fun j : S1x2048.Idx => Spec.scale X G (j 1)) (emb10 t y1)).symm

end Cert.ReferenceIdeal.RefArr

end
-- ==== Proof.RefRun.lean ====
/-
  THE REFERENCE'S RUN: from any memory, its five result arrays end at the closed forms of its arguments.
-/
module

public import proofs.«01_k».proof.Proof.RefArr

@[expose] public section

set_option maxRecDepth 16384

noncomputable section

open Idealize.ShloMosaic Idealize.ShloMosaic.TcCoe Idealize.SL.Sem
open Cert.ReferenceIdeal Cert.ReferenceIdeal.Gen

namespace Cert.ReferenceIdeal.RefRun

variable (m : (ℓ : Loc nD τ sig) → Buf (Elt Ideal) ℓ) (ρ : Dev nD → PrngReg)

/-! What the call finds: the host's three reshapes, and the arguments themselves. -/

theorem v0_read (c : Dev nD) : V m c main_v0 = (shapeCast S2048x4096 (m ((c : Thread nD τ).loc main_arg0) : FVec Ideal S2x1024x4096 .bf16)
    shapeCasts_S2x1024x4096_S2048x4096 : FVec Ideal S2048x4096 .bf16) := by
  entry_read
  rfl

theorem v1_read (c : Dev nD) : V m c main_v1 = (shapeCast S1x4096 (m ((c : Thread nD τ).loc main_arg1) : FVec Ideal S4096 .f32)
    shapeCasts_S4096_S1x4096 : FVec Ideal S1x4096 .f32) := by
  entry_read
  rfl

theorem v2_read (c : Dev nD) : V m c main_v2 = (shapeCast S1x4096 (m ((c : Thread nD τ).loc main_arg2) : FVec Ideal S4096 .f32)
    shapeCasts_S4096_S1x4096 : FVec Ideal S1x4096 .f32) := by
  entry_read
  rfl

variable (X : Dev nD → Fin 2048 → Fin 4096 → EReal) (G0 G : Dev nD → Fin 4096 → EReal) (R : Dev nD → Fin 4096 → Fin 11008 → EReal)
  (P : Dev nD → Fin 2048 → Fin 11008 → BitVec 8) (S : Dev nD → Fin 32 → Fin 11008 → EReal)
  (h0 : ∀ c r k, (V m c main_v0 : FVec Ideal S2048x4096 .bf16) (ix2 r k) = X c r k)
  (h1 : ∀ c k, (V m c main_v1 : FVec Ideal S1x4096 .f32) (ix2 0 k) = G0 c k)
  (h2 : ∀ c k, (V m c main_v2 : FVec Ideal S1x4096 .f32) (ix2 0 k) = G c k)
  (h3 : ∀ c k o, (V m c main_arg3 : FVec Ideal S4096x11008 .bf16) (ix2 k o) = R c k o)
  (h4 : ∀ c k o, (V m c main_arg4 : IVec S2048x11008 8) (ix2 k o) = P c k o)
  (h5 : ∀ c k o, (V m c main_arg5 : FVec Ideal S32x11008 .f32) (ix2 k o) = S c k o)

include h0 h1 h2 h3 h4 h5 in
/-- Every weakly fair execution ends with the five results at their closed forms and the arguments as they were. -/
theorem run : θ_run defs (onTc (τ := τ) (main (F := Ideal))) ⟨m, fun _ => 0, ρ⟩ (fun r => ∀ c : Dev nD,
    r.2.mem ((c.tc : Thread nD τ).loc main_v3_0) = (fun j => Spec.klAt (X c) (G0 c) (G c) (R c) (P c) (S c) (j 1) : FVec Ideal S1x11008 .f32)
    ∧ r.2.mem ((c.tc : Thread nD τ).loc main_v3_1) = (fun j => Spec.dg (X c) (G0 c) (G c) (R c) (P c) (S c) (j 1) : FVec Ideal S1x4096 .f32)
    ∧ r.2.mem ((c.tc : Thread nD τ).loc main_v3_2) = (fun j => Spec.dh (X c) (G0 c) (G c) (R c) (P c) (S c) (j 0) (j 1) : FVec Ideal S2048x4096 .f32)
    ∧ r.2.mem ((c.tc : Thread nD τ).loc main_v3_3) = (fun j => Spec.code (X c) (G c) (j 0) (j 1) : IVec S2048x4096 8)
    ∧ r.2.mem ((c.tc : Thread nD τ).loc main_v3_4) = (fun j => Spec.scale (X c) (G c) (j 1) : FVec Ideal S1x2048 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun _ h c =>
    ⟨(h.1.out_eq c 6).trans (RefArr.kl_arr m c _ _ _ _ _ _ (h0 c) (h1 c) (h2 c) (h3 c) (h4 c) (h5 c)),
      (h.1.out_eq c 7).trans (RefArr.dg_arr m c _ _ _ _ _ _ (h0 c) (h1 c) (h2 c) (h3 c) (h4 c) (h5 c)),
      (h.1.out_eq c 8).trans (RefArr.dh_arr m c _ _ _ _ _ _ (h0 c) (h1 c) (h2 c) (h3 c) (h4 c) (h5 c)),
      (h.1.out_eq c 9).trans (RefArr.codes_arr m c _ _ (h0 c) (h2 c)),
      (h.1.out_eq c 10).trans (RefArr.scales_arr m c _ _ (h0 c) (h2 c)), h.2 c⟩)
    (θ_run_and (run_main m ρ) (unchanged m ρ))

end Cert.ReferenceIdeal.RefRun

end
-- ==== Proof.Pair.lean ====
/-
  THE TWO RUNS SIDE BY SIDE: the kernel and the reference, from memories that agree on the arguments, end at the same results.
-/
module

public import proofs.«01_k».proof.Defs
public import proofs.«01_k».proof.Proof.RefRun

@[expose] public section

set_option maxRecDepth 16384

noncomputable section

open Idealize.ShloMosaic Idealize.ShloMosaic.TcCoe Idealize.SL.Sem

namespace Cert.Pair

open Cert.KernelIdeal Cert.KernelIdeal.Gen in
/-- The kernel's run: its five results at their closed forms, its arguments as they were. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
    r.2.mem ((c.tc : Thread nD τ).loc main_v4_1) = (fun j => Spec.klAt (Bound.X m c) (Bound.G0 m c) (Bound.G m c) (Bound.R m c)
      (Bound.P m c) (Bound.S m c) (j 1) : FVec Ideal S1x11008 .f32)
    ∧ r.2.mem ((c.tc : Thread nD τ).loc main_v6_1) = (fun j => Spec.dg (Bound.X m c) (Bound.G0 m c) (Bound.G m c) (Bound.R m c)
      (Bound.P m c) (Bound.S m c) (j 1) : FVec Ideal S1x4096 .f32)
    ∧ r.2.mem ((c.tc : Thread nD τ).loc main_v6_0) = (fun j => Spec.dh (Bound.X m c) (Bound.G0 m c) (Bound.G m c) (Bound.R m c)
      (Bound.P m c) (Bound.S m c) (j 0) (j 1) : FVec Ideal S2048x4096 .f32)
    ∧ r.2.mem ((c.tc : Thread nD τ).loc main_v3_1) = (fun j => Spec.code (Bound.X m c) (Bound.G m c) (j 0) (j 1) : IVec S2048x4096 8)
    ∧ r.2.mem ((c.tc : Thread nD τ).loc main_v3_2) = (fun j => Spec.scale (Bound.X m c) (Bound.G m c) (j 1) : FVec Ideal S1x2048 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run defs _ _).mono (fun _ h c =>
    ⟨(h c _ (mem_uc main_v4_1 (by decide))).trans (Bound.kl_end m ρ c),
      (h c _ (mem_uc main_v6_1 (by decide))).trans (Bound.dg_end m ρ c),
      (h c _ (mem_uc main_v6_0 (by decide))).trans (Bound.dh_end m ρ c),
      (h c _ (mem_uc main_v3_1 (by decide))).trans (Bound.codes_end m ρ c),
      (h c _ (mem_uc main_v3_2 (by decide))).trans (Bound.scales_end m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c)⟩)
    (Run.run m ρ)

/-- The value claim. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, _, _, _, _, kernel_run m g, ?_⟩
  refine Cert.ReferenceIdeal.RefRun.run m' g' (fun c => Cert.KernelIdeal.Bound.X m c) (fun c => Cert.KernelIdeal.Bound.G0 m c)
    (fun c => Cert.KernelIdeal.Bound.G m c) (fun c => Cert.KernelIdeal.Bound.R m c) (fun c => Cert.KernelIdeal.Bound.P m c)
    (fun c => Cert.KernelIdeal.Bound.S m c) (fun c r k => ?_) (fun c k => ?_) (fun c k => ?_) (fun c k o => ?_) (fun c k o => ?_)
    (fun c k o => ?_)
  · rw [Cert.ReferenceIdeal.RefRun.v0_read m' c, (hargs c).1]; rfl
  · rw [Cert.ReferenceIdeal.RefRun.v1_read m' c, (hargs c).2.1]; rfl
  · rw [Cert.ReferenceIdeal.RefRun.v2_read m' c, (hargs c).2.2.1]; rfl
  · rw [Cert.ReferenceIdeal.Gen.V_main_arg3 m' c, (hargs c).2.2.2.1]; rfl
  · rw [Cert.ReferenceIdeal.Gen.V_main_arg4 m' c, (hargs c).2.2.2.2.1]; rfl
  · rw [Cert.ReferenceIdeal.Gen.V_main_arg5 m' c, (hargs c).2.2.2.2.2]; rfl

end Cert.Pair

end
-- ==== Proof.lean ====
/- THE CERTIFICATE: the three programs' frames, the idealization (nothing rewritten), and the equality of the two results. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Pair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.Pair.algebraic⟩

end Cert.Proof

end
